-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)

variable [Facts]

def fn {F : FTy → Type} [FloatOps F] (main_arg0 : FVec F S2x128x512 .bf16) (main_arg1 : FVec F S512x512 .bf16) (main_arg2 : FVec F S512x512 .bf16) (main_arg3 : FVec F S512x512 .bf16) (main_arg4 : FVec F S512x512 .bf16) : IVec S2x128x512 1 × IVec S512x512 1 × IVec S512x512 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x512 .bf16 := Host.absf main_arg1
  let main_cst_0 : FVec F S_ .bf16 := constant S_ .bf16 0x7F80#16
  let main_v4 : FVec F S512x512 .bf16 := broadcastInDim S512x512 ![] bcast_S_S512x512 main_cst_0
  let main_v5 : IVec S512x512 1 := cmpf .olt main_v3 main_v4
  let main_v6 : FVec F S512x512 .bf16 := Host.absf main_arg2
  let main_cst_1 : FVec F S_ .bf16 := constant S_ .bf16 0x7F80#16
  let main_v7 : FVec F S512x512 .bf16 := broadcastInDim S512x512 ![] bcast_S_S512x512 main_cst_1
  let main_v8 : IVec S512x512 1 := cmpf .olt main_v6 main_v7
  (main_v2, main_v5, main_v8)
-- ==== Pre_finite_scores_ReferenceIdeal.lean ====
abbrev S2x128x512 : Shape := ⟨3, ![2, 128, 512]⟩
abbrev S512x16384 : Shape := ⟨2, ![512, 16384]⟩
abbrev S16384x512 : Shape := ⟨2, ![16384, 512]⟩
abbrev S_ : Shape := ⟨0, ![]⟩

class Facts : Prop where
  bcast_S_S2x128x512 : S_.BroadcastsInDim S2x128x512 (![] : Fin 0 → Fin S2x128x512.rank)
  bcast_S_S512x16384 : S_.BroadcastsInDim S512x16384 (![] : Fin 0 → Fin S512x16384.rank)

variable [Facts]

def fn {F : FTy → Type} [FloatOps F] (main_arg0 : FVec F S2x128x512 .bf16) (main_arg1 : FVec F S512x16384 .bf16) (main_arg2 : FVec F S512x16384 .bf16) (main_arg3 : FVec F S512x16384 .bf16) (main_arg4 : FVec F S16384x512 .bf16) : IVec S2x128x512 1 × IVec S512x16384 1 × IVec S512x16384 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x16384 .bf16 := Host.absf main_arg1
  let main_cst_0 : FVec F S_ .bf16 := constant S_ .bf16 0x7F80#16
  let main_v4 : FVec F S512x16384 .bf16 := broadcastInDim S512x16384 ![] bcast_S_S512x16384 main_cst_0
  let main_v5 : IVec S512x16384 1 := cmpf .olt main_v3 main_v4
  let main_v6 : FVec F S512x16384 .bf16 := Host.absf main_arg2
  let main_cst_1 : FVec F S_ .bf16 := constant S_ .bf16 0x7F80#16
  let main_v7 : FVec F S512x16384 .bf16 := broadcastInDim S512x16384 ![] bcast_S_S512x16384 main_cst_1
  let main_v8 : IVec S512x16384 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S8x128x128 : Shape := ⟨3, ![8, 128, 128]⟩
abbrev S32x8x512 : Shape := ⟨3, ![32, 8, 512]⟩
abbrev S8x512 : Shape := ⟨2, ![8, 512]⟩
abbrev S_ : Shape := ⟨0, ![]⟩
abbrev S256x512 : Shape := ⟨2, ![256, 512]⟩
abbrev S128x64 : Shape := ⟨2, ![128, 64]⟩
abbrev S128x128 : Shape := ⟨2, ![128, 128]⟩
abbrev S1x128x128 : Shape := ⟨3, ![1, 128, 128]⟩
abbrev S8x128 : Shape := ⟨2, ![8, 128]⟩
abbrev S8x128x1 : Shape := ⟨3, ![8, 128, 1]⟩
abbrev S1x128x64 : Shape := ⟨3, ![1, 128, 64]⟩
abbrev S1x128x512 : Shape := ⟨3, ![1, 128, 512]⟩
abbrev S128x512 : Shape := ⟨2, ![128, 512]⟩
abbrev S16x8x512 : Shape := ⟨3, ![16, 8, 512]⟩
abbrev S1x8x512 : Shape := ⟨3, ![1, 8, 512]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x512, .bf16⟩
  | .hbm, ⟨5, _⟩ => ⟨S2x128x512, .bf16⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S2x128x512, .bf16⟩
  | .local _ .vmem, ⟨6, _⟩ => ⟨S2x128x512, .bf16⟩
  | .local _ .vmem, ⟨7, _⟩ => ⟨S2x128x512, .f32⟩
  | .local _ .vmem, ⟨8, _⟩ => ⟨S8x128x128, .f32⟩
  | .local _ .vmem, ⟨9, _⟩ => ⟨S32x8x512, .bf16⟩
  | .local _ .vmem, ⟨10, _⟩ => ⟨S32x8x512, .bf16⟩
  | .local _ .vmem, ⟨11, _⟩ => ⟨S8x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_117 : BitVec 32 := 0#32
  let c0_i32_118 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_587 : BitVec 32 := 0#32
  let v559 : BitVec 1 := Scalar.cmpi .sgt v2 c0_i32_587
  let v560 : BitVec 32 := Scalar.extui v559
  let c0_i32_588 : BitVec 32 := 0#32
  let v561 : BitVec 1 := Scalar.cmpi .slt v2 c0_i32_588
  let v562 : BitVec 32 := Scalar.extui v561
  let v563 : BitVec 32 := Scalar.subi v560 v562
  let c16_i32_586 : BitVec 32 := 16#32
  let c0_i32_589 : BitVec 32 := 0#32
  let v564 : BitVec 1 := Scalar.cmpi .sgt c16_i32_586 c0_i32_589
  let v565 : BitVec 32 := Scalar.extui v564
  let c0_i32_590 : BitVec 32 := 0#32
  let v566 : BitVec 1 := Scalar.cmpi .slt c16_i32_586 c0_i32_590
  let v567 : BitVec 32 := Scalar.extui v566
  let v568 : BitVec 32 := Scalar.subi v565 v567
  let v569 : BitVec 1 := Scalar.cmpi .ne v563 v568
  let v570 : BitVec 32 := Scalar.remsi v2 c16_i32_586
  let c0_i32_591 : BitVec 32 := 0#32
  let v571 : BitVec 1 := Scalar.cmpi .ne v570 c0_i32_591
  let v572 : BitVec 1 := Scalar.andi v569 v571
  let v558 : BitVec 32 := Scalar.divsi v2 c16_i32_586
  let c1_i32_592 : BitVec 32 := 1#32
  let v573 : BitVec 32 := Scalar.subi v558 c1_i32_592
  let v574 : BitVec 32 := Scalar.select v572 v573 v558
  let c16_i32_593 : BitVec 32 := 16#32
  let c0_i32_594 : BitVec 32 := 0#32
  let v575 : BitVec 1 := Scalar.cmpi .eq c16_i32_593 c0_i32_594
  let c1_i32_595 : BitVec 32 := 1#32
  let v576 : BitVec 32 := Scalar.select v575 c1_i32_595 c16_i32_593
  let v577 : BitVec 32 := Scalar.remsi v2 v576
  let c0_i32_597 : BitVec 32 := 0#32
  let v579 : BitVec 1 := Scalar.cmpi .slt v577 c0_i32_597
  let c0_i32_598 : BitVec 32 := 0#32
  let v580 : BitVec 1 := Scalar.cmpi .slt v576 c0_i32_598
  let v581 : BitVec 1 := Scalar.xori v579 v580
  let c0_i32_596 : BitVec 32 := 0#32
  let v578 : BitVec 1 := Scalar.cmpi .ne v577 c0_i32_596
  let v582 : BitVec 1 := Scalar.andi v581 v578
  let v583 : BitVec 32 := Scalar.addi v577 v576
  let v584 : BitVec 32 := Scalar.select v582 v583 v577
  let c8_i32_599 : BitVec 32 := 8#32
  let v585 : BitVec 32 := Scalar.muli v584 c8_i32_599
  let c0_i32_601 : BitVec 32 := 0#32
  ![v574.toNat, v585.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x16384 : Shape := ⟨2, ![512, 16384]⟩
abbrev S16384x512 : Shape := ⟨2, ![16384, 512]⟩
abbrev S2x128x16384 : Shape := ⟨3, ![2, 128, 16384]⟩
abbrev S2x128x256x64 : Shape := ⟨4, ![2, 128, 256, 64]⟩
abbrev S_ : Shape := ⟨0, ![]⟩
abbrev S2x256x128x1 : Shape := ⟨4, ![2, 256, 128, 1]⟩
abbrev S2x256x128x128 : Shape := ⟨4, ![2, 256, 128, 128]⟩
abbrev S2x256x128 : Shape := ⟨3, ![2, 256, 128]⟩
abbrev S2x128x256x1 : Shape := ⟨4, ![2, 128, 256, 1]⟩
abbrev S2x256x64x128 : Shape := ⟨4, ![2, 256, 64, 128]⟩

abbrev nBuf : Space → Nat
  | .hbm => 54
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x16384, .bf16⟩
  | .hbm, ⟨2, _⟩ => ⟨S512x16384, .bf16⟩
  | .hbm, ⟨3, _⟩ => ⟨S512x16384, .bf16⟩
  | .hbm, ⟨4, _⟩ => ⟨S16384x512, .bf16⟩
  | .hbm, ⟨5, _⟩ => ⟨S2x128x16384, .f32⟩
  | .hbm, ⟨6, _⟩ => ⟨S2x128x16384, .bf16⟩
  | .hbm, ⟨7, _⟩ => ⟨S2x128x256x64, .bf16⟩
  | .hbm, ⟨8, _⟩ => ⟨S2x128x16384, .f32⟩
  | .hbm, ⟨9, _⟩ => ⟨S2x128x16384, .bf16⟩
  | .hbm, ⟨10, _⟩ => ⟨S2x128x256x64, .bf16⟩
  | .hbm, ⟨11, _⟩ => ⟨S2x128x16384, .f32⟩
  | .hbm, ⟨12, _⟩ => ⟨S2x128x16384, .bf16⟩
  | .hbm, ⟨13, _⟩ => ⟨S2x128x256x64, .bf16⟩
  | .hbm, ⟨14, _⟩ => ⟨S_, .f32⟩
  | .hbm, ⟨15, _⟩ => ⟨S2x128x256x64, .f32⟩
  | .hbm, ⟨16, _⟩ => ⟨S_, .f32⟩
  | .hbm, ⟨17, _⟩ => ⟨S2x256x128x1, .f32⟩
  | .hbm, ⟨18, _⟩ => ⟨S_, .f32⟩
  | .hbm, ⟨19, _⟩ => ⟨S2x256x128x1, .f32⟩
  | .hbm, ⟨20, _⟩ => ⟨S2x256x128x128, .f32⟩
  | .hbm, ⟨21, _⟩ => ⟨S2x256x128x128, .bf16⟩
  | .hbm, ⟨22, _⟩ => ⟨S2x256x128x128, .f32⟩
  | .hbm, ⟨23, _⟩ => ⟨S_, .f32⟩
  | .hbm, ⟨24, _⟩ => ⟨S2x256x128x128, .f32⟩
  | .hbm, ⟨25, _⟩ => ⟨S2x256x128x128, .f32⟩
  | .hbm, ⟨26, _⟩ => ⟨S_, .f32⟩
  | .hbm, ⟨27, _⟩ => ⟨S2x256x128, .f32⟩
  | .hbm, ⟨28, _⟩ => ⟨S2x256x128x1, .f32⟩
  | .hbm, ⟨29, _⟩ => ⟨S2x256x128x1, .f32⟩
  | .hbm, ⟨30, _⟩ => ⟨S2x256x128x1, .f32⟩
  | .hbm, ⟨31, _⟩ => ⟨S2x256x128x1, .f32⟩
  | .hbm, ⟨32, _⟩ => ⟨S2x256x128x128, .f32⟩
  | .hbm, ⟨33, _⟩ => ⟨S2x256x128x128, .f32⟩
  | .hbm, ⟨34, _⟩ => ⟨S2x256x128x128, .f32⟩
  | .hbm, ⟨35, _⟩ => ⟨S2x256x128x1, .f32⟩
  | .hbm, ⟨36, _⟩ => ⟨S_, .f32⟩
  | .hbm, ⟨37, _⟩ => ⟨S2x256x128, .f32⟩
  | .hbm, ⟨38, _⟩ => ⟨S2x256x128x1, .f32⟩
  | .hbm, ⟨39, _⟩ => ⟨S2x256x128x1, .f32⟩
  | .hbm, ⟨40, _⟩ => ⟨S2x128x256x1, .f32⟩
  | .hbm, ⟨41, _⟩ => ⟨S2x128x256x64, .f32⟩
  | .hbm, ⟨42, _⟩ => ⟨S2x128x256x64, .f32⟩
  | .hbm, ⟨43, _⟩ => ⟨S2x128x256x64, .f32⟩
  | .hbm, ⟨44, _⟩ => ⟨S2x256x64x128, .f32⟩
  | .hbm, ⟨45, _⟩ => ⟨S2x128x256x64, .f32⟩
  | .hbm, ⟨46, _⟩ => ⟨S2x128x256x64, .f32⟩
  | .hbm, ⟨47, _⟩ => ⟨S2x128x256x1, .f32⟩
  | .hbm, ⟨48, _⟩ => ⟨S2x128x256x64, .f32⟩
  | .hbm, ⟨49, _⟩ => ⟨S2x128x256x64, .f32⟩
  | .hbm, ⟨50, _⟩ => ⟨S2x128x16384, .f32⟩
  | .hbm, ⟨51, _⟩ => ⟨S16384x512, .f32⟩
  | .hbm, ⟨52, _⟩ => ⟨S2x128x512, .f32⟩
  | .hbm, ⟨53, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Geometry.lean ====
/-
# Where the transferred pieces lie

The exchange moves pieces of eight rows. In a buffer of 32 such pieces (the send buffer, the receive buffer) piece `j` is
slot `j`, leading coordinate `j`. In the result, `2×128×512`, piece `j` is block `j`: batch `j / 16`, rows `8·(j % 16)`
to `8·(j % 16) + 7`. This module names the memrefs of a slot and of a block, gives the element each of their indices
names, the sets of elements they cover, and that the 32 of them cut the buffer without overlap.
-/
module

public import proofs.«01_k».proof.Proof.Gen.KernelIdeal
public import Idealize.ShloMosaic.Lib.Pipeline.Kit
public import Idealize.ShloMosaic.Lib.Pipeline.Value
public import Idealize.ShloMosaic.Lib.ValueIdx
public import Idealize.ShloMosaic.Lib.ValueLayout
public import Idealize.ShloMosaic.Lib.Ring

@[expose] public section

noncomputable section

namespace Cert.KernelIdealProof

open Cert.KernelIdeal Cert.KernelIdeal.Gen
open Idealize.ShloMosaic Idealize.ShloMosaic.TcCoe
open Idealize.ShloMosaic.ValueIdx (ix2 ix3 eq_ix2 eq_ix3)

/-! ## The kernel's device-dependent offsets -/

/-- The receive slot a device's copies land in is its own number. -/
theorem off1_eq : ∀ c : Dev nD, k0_off1 c = ![c.val, 0, 0] := by decide +kernel

/-- The result block a device's copies land in: batch `c / 16`, rows from `8·(c % 16)`. -/
theorem off2_eq : ∀ c : Dev nD, k0_off2 c = ![c.val / 16, 8 * (c.val % 16), 0] := by decide +kernel

/-! ## Slots -/

theorem slot_inb (j : Fin 32) : ∀ a, (![j.val, 0, 0] : Fin 3 → Nat) a + S1x8x512.size a ≤ S32x8x512.size a := by
  revert j; decide +kernel

theorem blk_inb (j : Fin 32) :
    ∀ a, (![j.val / 16, 8 * (j.val % 16), 0] : Fin 3 → Nat) a + S1x8x512.size a ≤ S2x128x512.size a := by
  revert j; decide +kernel

/-- Slot `j` of a buffer of 32 pieces, as an eight-row memref. -/
abbrev slotM (b : Memref sig .tc .vmem S32x8x512 .bf16) (j : Fin 32) : Memref sig .tc .vmem S8x512 .bf16 :=
  (b.slice (Rect.unit (s := S32x8x512) ![j.val, 0, 0] S1x8x512.size (slot_inb j)) (fun _ => rfl)).squeeze S8x512 squeezes_S1x8x512_S8x512

/-- Block `j` of the result, as an eight-row memref. -/
abbrev blkM (b : Memref sig .tc .vmem S2x128x512 .bf16) (j : Fin 32) : Memref sig .tc .vmem S8x512 .bf16 :=
  (b.slice (Rect.unit (s := S2x128x512) ![j.val / 16, 8 * (j.val % 16), 0] S1x8x512.size (blk_inb j)) (fun _ => rfl)).squeeze S8x512 squeezes_S1x8x512_S8x512

abbrev sbufM : Memref sig .tc .vmem S32x8x512 .bf16 := Memref.whole cc0_scratch3
abbrev rsM : Memref sig .tc .vmem S32x8x512 .bf16 := Memref.whole cc0_scratch4
abbrev agM : Memref sig .tc .vmem S8x512 .bf16 := Memref.whole cc0_scratch5
abbrev outM : Memref sig .tc .vmem S2x128x512 .bf16 := Memref.whole cc0_stg5_0

/-- The row-major match of an eight-row piece's index with the index of the one-piece slice it is the squeeze of. -/
theorem reshape_row (x : S8x512.Idx) :
    Shape.reshapeEquiv (s := S1x8x512) (s' := S8x512) squeezes_S1x8x512_S8x512.numel_eq x = ix3 (0 : Fin 1) (x 0) (x 1) := by
  rw [eq_ix2 x]
  exact ValueIdx.reshapeEquiv_ix2_1ab _ (x 0) (x 1)

/-- Element `(a, b)` of slot `j` is element `(j, a, b)` of the buffer. -/
theorem slot_emb (b : Memref sig .tc .vmem S32x8x512 .bf16) (j : Fin 32) (x : S8x512.Idx) :
    (slotM b j).view.emb x = b.view.emb (ix3 j (x 0) (x 1)) := by
  show b.view.emb ((Rect.unit (s := S32x8x512) ![j.val, 0, 0] S1x8x512.size (slot_inb j)).emb
    (Shape.reshapeEquiv (s := S1x8x512) (s' := S8x512) squeezes_S1x8x512_S8x512.numel_eq x)) = _
  rw [reshape_row]
  refine congrArg b.view.emb (funext fun a => Fin.ext ?_)
  refine (Rect.emb_apply _ _ _).trans ?_
  match a with
  | ⟨0, _⟩ => show j.val + 1 * 0 = j.val; omega
  | ⟨1, _⟩ => show 0 + 1 * (x 0).val = (x 0).val; omega
  | ⟨2, _⟩ => show 0 + 1 * (x 1).val = (x 1).val; omega

/-- The batch of block `j`. -/
abbrev blkB (j : Fin 32) : Fin 2 := ⟨j.val / 16, by omega⟩
/-- Row `a` of block `j` within its batch. -/
abbrev blkRow (j : Fin 32) (a : Fin 8) : Fin 128 := ⟨8 * (j.val % 16) + a.val, by omega⟩

/-- Element `(a, b)` of block `j` is element `(j / 16, 8·(j % 16) + a, b)` of the result. -/
theorem blk_emb (b : Memref sig .tc .vmem S2x128x512 .bf16) (j : Fin 32) (x : S8x512.Idx) :
    (blkM b j).view.emb x = b.view.emb (ix3 (blkB j) (blkRow j (x 0)) (x 1)) := by
  show b.view.emb ((Rect.unit (s := S2x128x512) ![j.val / 16, 8 * (j.val % 16), 0] S1x8x512.size (blk_inb j)).emb
    (Shape.reshapeEquiv (s := S1x8x512) (s' := S8x512) squeezes_S1x8x512_S8x512.numel_eq x)) = _
  rw [reshape_row]
  refine congrArg b.view.emb (funext fun a => Fin.ext ?_)
  refine (Rect.emb_apply _ _ _).trans ?_
  match a with
  | ⟨0, _⟩ => show j.val / 16 + 1 * 0 = j.val / 16; omega
  | ⟨1, _⟩ => show 8 * (j.val % 16) + 1 * (x 0).val = 8 * (j.val % 16) + (x 0).val; omega
  | ⟨2, _⟩ => show 0 + 1 * (x 1).val = (x 1).val; omega

/-- The elements of slot `j`: those of leading coordinate `j`. -/
def slotSet (j : Fin 32) : Finset S32x8x512.Idx := Finset.univ.filter fun i => (i 0).val = j.val
/-- The block an element of the result lies in. -/
def blkOf (i : S2x128x512.Idx) : Fin 32 :=
  ⟨16 * (i 0).val + (i 1).val / 8, by have h0 : (i 0).val < 2 := (i 0).isLt; have h1 : (i 1).val < 128 := (i 1).isLt; omega⟩
/-- Its row within that block. -/
def rowOf (i : S2x128x512.Idx) : Fin 8 := ⟨(i 1).val % 8, Nat.mod_lt _ (by decide)⟩
/-- The elements of block `j`. -/
def blkSet (j : Fin 32) : Finset S2x128x512.Idx := Finset.univ.filter fun i => blkOf i = j

theorem mem_slotSet (i : S32x8x512.Idx) (j : Fin 32) : i ∈ slotSet j ↔ i 0 = j := by
  unfold slotSet; rw [Finset.mem_filter]; exact ⟨fun h => Fin.ext h.2, fun h => ⟨Finset.mem_univ _, congrArg Fin.val h⟩⟩
theorem mem_blkSet (i : S2x128x512.Idx) (j : Fin 32) : i ∈ blkSet j ↔ blkOf i = j := by simp [blkSet]

theorem ix3_slot (i : S32x8x512.Idx) {j : Fin 32} (h : i 0 = j) : ix3 j (i 1) (i 2) = i := by
  subst h; exact (eq_ix3 i).symm

theorem ix3_blk (i : S2x128x512.Idx) {j : Fin 32} (h : blkOf i = j) : ix3 (blkB j) (blkRow j (rowOf i)) (i 2) = i := by
  subst h
  have h0 : (i 0).val < 2 := (i 0).isLt
  have h1 : (i 1).val < 128 := (i 1).isLt
  funext a
  match a with
  | ⟨0, _⟩ => exact Fin.ext (by show (16 * (i 0).val + (i 1).val / 8) / 16 = (i 0).val; omega)
  | ⟨1, _⟩ => exact Fin.ext (by show 8 * ((16 * (i 0).val + (i 1).val / 8) % 16) + (i 1).val % 8 = (i 1).val; omega)
  | ⟨2, _⟩ => rfl

theorem blkOf_ix3 (j : Fin 32) (a : Fin 8) (b : Fin 512) : blkOf (ix3 (blkB j) (blkRow j a) b) = j :=
  Fin.ext (by show 16 * (j.val / 16) + (8 * (j.val % 16) + a.val) / 8 = j.val; omega)
theorem rowOf_ix3 (j : Fin 32) (a : Fin 8) (b : Fin 512) : rowOf (ix3 (blkB j) (blkRow j a) b) = a :=
  Fin.ext (by show (8 * (j.val % 16) + a.val) % 8 = a.val; omega)

theorem sbuf_set (j : Fin 32) : (slotM sbufM j).view.set = slotSet j :=
  Finset.ext fun i => ⟨fun h => by
    obtain ⟨x, -, hx⟩ := Finset.mem_map.mp h
    exact (mem_slotSet i j).mpr ((congrFun hx 0).symm.trans (congrFun (slot_emb sbufM j x) 0)),
    fun h => Finset.mem_map.mpr ⟨ix2 (i 1) (i 2), Finset.mem_univ _, (slot_emb sbufM j _).trans (ix3_slot i ((mem_slotSet i j).mp h))⟩⟩
theorem rs_set (j : Fin 32) : (slotM rsM j).view.set = slotSet j :=
  Finset.ext fun i => ⟨fun h => by
    obtain ⟨x, -, hx⟩ := Finset.mem_map.mp h
    exact (mem_slotSet i j).mpr ((congrFun hx 0).symm.trans (congrFun (slot_emb rsM j x) 0)),
    fun h => Finset.mem_map.mpr ⟨ix2 (i 1) (i 2), Finset.mem_univ _, (slot_emb rsM j _).trans (ix3_slot i ((mem_slotSet i j).mp h))⟩⟩
theorem out_set (j : Fin 32) : (blkM outM j).view.set = blkSet j :=
  Finset.ext fun i => ⟨fun h => by
    obtain ⟨x, -, hx⟩ := Finset.mem_map.mp h
    have e : ix3 (blkB j) (blkRow j (x 0)) (x 1) = i := (blk_emb outM j x).symm.trans hx
    exact (mem_blkSet i j).mpr ((congrArg blkOf e).symm.trans (blkOf_ix3 j (x 0) (x 1))),
    fun h => Finset.mem_map.mpr ⟨ix2 (rowOf i) (i 2), Finset.mem_univ _, (blk_emb outM j _).trans (ix3_blk i ((mem_blkSet i j).mp h))⟩⟩

theorem slotSet_disjoint (j j' : Fin 32) (h : j ≠ j') : Disjoint (slotSet j) (slotSet j') :=
  Finset.disjoint_left.mpr fun i e e' => h (((mem_slotSet i j).mp e).symm.trans ((mem_slotSet i j').mp e'))
theorem slotSet_cover : Finset.univ.biUnion slotSet = Finset.univ :=
  Finset.eq_univ_of_forall fun i => Finset.mem_biUnion.mpr ⟨i 0, Finset.mem_univ _, (mem_slotSet i _).mpr rfl⟩
theorem blkSet_disjoint (j j' : Fin 32) (h : j ≠ j') : Disjoint (blkSet j) (blkSet j') :=
  Finset.disjoint_left.mpr fun i e e' => h (((mem_blkSet i j).mp e).symm.trans ((mem_blkSet i j').mp e'))
theorem blkSet_cover : Finset.univ.biUnion blkSet = Finset.univ :=
  Finset.eq_univ_of_forall fun i => Finset.mem_biUnion.mpr ⟨blkOf i, Finset.mem_univ _, (mem_blkSet i _).mpr rfl⟩

/-! ## What a landed piece holds -/

variable {Val : EltTy → Type}

/-- A copy of send slot `j` into receive slot `c` leaves, on that slot, the sent rows. -/
theorem rs_landed (c j : Fin 32) (fd fs : S32x8x512.Idx → Val .bf16) (i : S32x8x512.Idx) (hi : i ∈ slotSet c) :
    (slotM rsM c).view.write Val fd ((slotM sbufM j).view.read Val fs) Finset.univ i = fs (ix3 j (i 1) (i 2)) := by
  have h0 : i 0 = c := (mem_slotSet i c).mp hi
  have he : (slotM rsM c).view.emb (ix2 (i 1) (i 2)) = i := by rw [slot_emb]; exact ix3_slot i h0
  have hw := View.write_emb_of_mem (Val := Val) (v := (slotM rsM c).view) fd ((slotM sbufM j).view.read Val fs) (Finset.mem_univ (ix2 (i 1) (i 2)))
  refine (congrArg ((slotM rsM c).view.write Val fd ((slotM sbufM j).view.read Val fs) Finset.univ) he.symm).trans (hw.trans ?_)
  show fs ((slotM sbufM j).view.emb (ix2 (i 1) (i 2))) = _
  rw [slot_emb]; rfl

/-- A copy of the summed rows into block `j` leaves, on that block, those rows. -/
theorem out_landed (j : Fin 32) (fd : S2x128x512.Idx → Val .bf16) (fs : S8x512.Idx → Val .bf16) (i : S2x128x512.Idx) (hi : i ∈ blkSet j) :
    (blkM outM j).view.write Val fd (agM.view.read Val fs) Finset.univ i = fs (ix2 (rowOf i) (i 2)) := by
  have h0 : blkOf i = j := (mem_blkSet i j).mp hi
  have he : (blkM outM j).view.emb (ix2 (rowOf i) (i 2)) = i := by rw [blk_emb]; exact ix3_blk i h0
  have hw := View.write_emb_of_mem (Val := Val) (v := (blkM outM j).view) fd (agM.view.read Val fs) (Finset.mem_univ (ix2 (rowOf i) (i 2)))
  exact (congrArg ((blkM outM j).view.write Val fd (agM.view.read Val fs) Finset.univ) he.symm).trans hw

/-! ## The credits the copies give -/

/-- What a copy of eight rows credits. -/
abbrev N : ℕ := agM.view.dmaCredit
theorem N_pos : 0 < N := View.dmaCredit_pos _ (by decide)
theorem credit_slot_rs (j : Fin 32) : (slotM rsM j).view.dmaCredit = N := rfl
theorem credit_slot_sbuf (j : Fin 32) : (slotM sbufM j).view.dmaCredit = N := rfl
theorem credit_blk (j : Fin 32) : (blkM outM j).view.dmaCredit = N := rfl

end Cert.KernelIdealProof

end
-- ==== Proof.Protocol.lean ====
/-
# The exchange between the 32 devices, as a schedule of payments

Each device takes part in five exchanges, one semaphore cell of its own for each:

* the BARRIER: every device (itself included) signals it once. With its signal to device `c`, device `j` hands over its
  receive slot `c` and its result block `c` — the places device `c` later copies into;
* the SCATTER: device `c` copies its send slot `j` into slot `c` of device `j`'s receive buffer. The landing pays device
  `j`'s receive cell with that slot at the sent rows, and device `c`'s send cell with the send slot back;
* the GATHER: device `c` copies its summed rows into block `c` of every device's result. The landing pays the other
  device's receive cell with that block at those rows, and device `c`'s send cell with the share of the summed rows lent.

Every cell has one round of 32 duties, one per device. What the buffers hold is stated from `SB`, the contents of each
device's send buffer: the receive buffer `RS`, the summed rows `AG` and the result `OUT` follow from it.
-/
module

public import proofs.«01_k».proof.Proof.Geometry
public import proofs.«01_k».proof.Proof.Gen.KernelIdeal.Skeleton
public import proofs.«01_k».proof.Proof.Gen.KernelIdeal.Launch
public import Idealize.ShloMosaic.Lib.Pipeline.Launch
public import Idealize.ShloMosaic.Lib.Tactic
public import Idealize.ShloMosaic.Lib.ShareLeaves

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The resource algebra: the pipeline library's, and the exchanges' (duties named by devices) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

/-- The runtime's barrier semaphore. -/
abbrev barS : Sem sig := (SemArray.scalar (sig.barrier 0 rfl) : Sems sig S_).sem

/-- The five semaphores: barrier, scatter send, scatter receive, gather send, gather receive. -/
abbrev csem : Fin 5 → SemLoc sig := fun
  | 0 => .reg barS | 1 => .dma cc0_scratch6.sem | 2 => .dma cc0_scratch7.sem | 3 => .dma cc0_scratch8.sem | 4 => .dma cc0_scratch9.sem
/-- The four of them that are the kernel's own. -/
abbrev osem : Fin 4 → SemLoc sig := fun
  | 0 => .dma cc0_scratch6.sem | 1 => .dma cc0_scratch7.sem | 2 => .dma cc0_scratch8.sem | 3 => .dma cc0_scratch9.sem

theorem csem_inj : Function.Injective csem := by
  intro a b h
  fin_cases a <;> fin_cases b <;> first | rfl | exact absurd h (by decide)

abbrev cellAt (c : Dev nD) (k : Fin 5) : GSem nD τ sig := ((c : Thread nD τ), csem k)
abbrev kcell (ck : Dev nD × Fin 5) : GSem nD τ sig := cellAt ck.1 ck.2

theorem cellAt_eq_iff {a b : Dev nD} {k l : Fin 5} : cellAt a k = cellAt b l ↔ a = b ∧ k = l :=
  ⟨fun h => ⟨Fin.ext (congrArg (fun g : GSem nD τ sig => g.1.1.val) h), csem_inj (congrArg Prod.snd h)⟩, fun h => by rw [h.1, h.2]⟩

/-! ## The contents that travel -/

/-- Contents of a buffer of 32 pieces, of one piece, of the result. -/
abbrev Pieces (F : FTy → Type) : Type := S32x8x512.Idx → Elt F .bf16
abbrev Piece (F : FTy → Type) : Type := S8x512.Idx → Elt F .bf16
abbrev Result (F : FTy → Type) : Type := S2x128x512.Idx → Elt F .bf16

variable (SB : Dev nD → Pieces F)

/-- Device `c`'s receive buffer once every copy has landed: slot `j` is device `j`'s send slot `c`. -/
def RS (c : Dev nD) : Pieces F := fun i => SB (i 0) (ix3 c (i 1) (i 2))
/-- Device `c`'s summed rows. -/
def AG (c : Dev nD) : Piece F := k0_pay50 (RS SB c)
/-- The result, the same on every device: block `j` is device `j`'s summed rows. -/
def OUT : Result F := fun i => AG SB (blkOf i) (ix2 (rowOf i) (i 2))

/-! ## The resources that travel -/

def rsPts (c : Dev nD) (j : Fin 32) (f : Pieces F) : sProp 𝕄 := ((c : Thread nD τ).loc cc0_scratch4) ↦[slotSet j]{fullShare} f
def sbPts (c : Dev nD) (j : Fin 32) (f : Pieces F) : sProp 𝕄 := ((c : Thread nD τ).loc cc0_scratch3) ↦[slotSet j]{fullShare} f
def outPts (c : Dev nD) (j : Fin 32) (f : Result F) : sProp 𝕄 := ((c : Thread nD τ).loc cc0_stg5_0) ↦[blkSet j]{fullShare} f
def agPts (c : Dev nD) (j : Fin 32) (f : Piece F) : sProp 𝕄 := ((c : Thread nD τ).loc cc0_scratch5) ↦[Finset.univ]{ShareLeaves.leaf 5 fullShare j} f

omit [FloatOps F] in
instance rsPts_storable (c : Dev nD) (j) (f) : BI.Storable (upEmb : UEmb _ 𝕄) (rsPts (F := F) c j f) := by unfold rsPts; infer_instance
omit [FloatOps F] in
instance sbPts_storable (c : Dev nD) (j) (f) : BI.Storable (upEmb : UEmb _ 𝕄) (sbPts (F := F) c j f) := by unfold sbPts; infer_instance
omit [FloatOps F] in
instance outPts_storable (c : Dev nD) (j) (f) : BI.Storable (upEmb : UEmb _ 𝕄) (outPts (F := F) c j f) := by unfold outPts; infer_instance
omit [FloatOps F] in
instance agPts_storable (c : Dev nD) (j) (f) : BI.Storable (upEmb : UEmb _ 𝕄) (agPts (F := F) c j f) := by unfold agPts; infer_instance

/-! ## The schedule -/

/-- What duty `j` of cell `k` of device `c` hands over. -/
def pay (c : Dev nD) (k : Fin 5) (j : Fin 32) : sProp 𝕄 := match k with
  | 0 => iprop((∃ f, rsPts j c f) ∗ (∃ f, outPts j c f))
  | 1 => sbPts c j (SB c)
  | 2 => rsPts c j (RS SB c)
  | 3 => agPts c j (AG SB c)
  | 4 => outPts c j (OUT SB)

instance pay_storable (c : Dev nD) (k) (j) : BI.Storable (upEmb : UEmb _ 𝕄) (pay SB c k j) := by
  unfold pay; split <;> infer_instance

/-- The amount of one payment: one signal, or the credit of one piece. -/
def amt (k : Fin 5) : ℕ := if k = 0 then 1 else N
theorem amt_pos (k : Fin 5) : 0 < amt k := by unfold amt; split; · exact Nat.one_pos
                                              · exact N_pos

/-- Which of the five cells a semaphore is, if any. -/
def kindOf (s : SemLoc sig) : Option (Fin 5) :=
  if s = csem 0 then some 0 else if s = csem 1 then some 1 else if s = csem 2 then some 2 else if s = csem 3 then some 3
  else if s = csem 4 then some 4 else none
theorem kindOf_csem (k : Fin 5) : kindOf (csem k) = some k := by
  unfold kindOf; fin_cases k <;> decide

/-- One round: each cell has a duty for each device. -/
def sched : Rounds.Schedule (GSem nD τ sig) (Fin 32) 𝕄 where
  duties g r := if r = 0 ∧ g.1.2 = .tc ∧ (kindOf g.2).isSome then Finset.univ else ∅
  unitless _ := False
  amount g _ _ := match kindOf g.2 with | some k => amt k | none => 1
  payload g _ d := match kindOf g.2 with | some k => pay SB g.1.1 k d | none => iprop(emp)
  amount_pos g _ _ _ := by
    split; · exact amt_pos _
    · exact Nat.one_pos

instance sched_payload_storable (g : GSem nD τ sig) (r : ℕ) (d : Fin 32) :
    BI.Storable (upEmb : UEmb _ 𝕄) ((sched SB).payload g r d) := by
  show BI.Storable upEmb (match kindOf g.2 with | some k => pay SB g.1.1 k d | none => iprop(emp))
  split <;> infer_instance

section Sched
variable (c : Dev nD) (k : Fin 5)

theorem duties_at : (sched SB).duties (cellAt c k) 0 = Finset.univ := by
  dsimp only [sched]; exact if_pos ⟨rfl, rfl, by rw [kindOf_csem]; rfl⟩
theorem duties_later (g : GSem nD τ sig) : ∀ r, 1 ≤ r → (sched SB).duties g r = ∅ :=
  fun r hr => by dsimp only [sched]; exact if_neg fun h => by omega
theorem mem_duties (j : Fin 32) : j ∈ (sched SB).duties (cellAt c k) 0 := by rw [duties_at]; exact Finset.mem_univ _
theorem amount_at (j : Fin 32) : (sched SB).amount (cellAt c k) 0 j = amt k := by
  dsimp only [sched]; rw [kindOf_csem]
theorem payload_at (j : Fin 32) : (sched SB).payload (cellAt c k) 0 j = pay SB c k j := by
  dsimp only [sched]; rw [kindOf_csem]
theorem expect_at : (sched SB).expect (cellAt c k) 0 = 32 * amt k := by
  unfold Schedule.expect Schedule.amountOf
  rw [duties_at, Finset.sum_congr rfl fun d _ => amount_at SB c k d, Finset.sum_const, Finset.card_univ, Fintype.card_fin, smul_eq_mul]
end Sched

/-! ## Initial and final segments of the devices -/

/-- The devices from number `n` on. -/
def ge (n : ℕ) : Finset (Fin 32) := Finset.univ.filter fun j => n ≤ j.val
/-- The devices below number `n`. -/
def lt (n : ℕ) : Finset (Fin 32) := Finset.univ.filter fun j => j.val < n
/-- The devices from `n` and below `m`. -/
def rng (n m : ℕ) : Finset (Fin 32) := Finset.univ.filter fun j => n ≤ j.val ∧ j.val < m

theorem ge_zero : ge 0 = Finset.univ := by unfold ge; exact Finset.filter_true_of_mem fun _ _ => Nat.zero_le _
theorem ge_last : ge 32 = ∅ := by unfold ge; exact Finset.filter_false_of_mem fun j _ => by omega
theorem lt_zero : lt 0 = ∅ := by unfold lt; exact Finset.filter_false_of_mem fun j _ => by omega
theorem lt_last : lt 32 = Finset.univ := by unfold lt; exact Finset.filter_true_of_mem fun j _ => j.isLt
theorem ge_succ (j : Fin 32) : ge j.val = insert j (ge (j.val + 1)) := by
  ext i; simp only [ge, Finset.mem_filter, Finset.mem_univ, true_and, Finset.mem_insert, Fin.ext_iff]; omega
theorem not_mem_ge (j : Fin 32) : j ∉ ge (j.val + 1) := by simp [ge]
theorem lt_succ (j : Fin 32) : lt (j.val + 1) = insert j (lt j.val) := by
  ext i; simp only [lt, Finset.mem_filter, Finset.mem_univ, true_and, Finset.mem_insert, Fin.ext_iff]; omega
theorem not_mem_lt (j : Fin 32) : j ∉ lt j.val := by simp [lt]
theorem rng_succ (j : Fin 32) (m : ℕ) (h : j.val < m) : rng j.val m = insert j (rng (j.val + 1) m) := by
  ext i; simp only [rng, Finset.mem_filter, Finset.mem_univ, true_and, Finset.mem_insert, Fin.ext_iff]; omega
theorem not_mem_rng (j : Fin 32) (m : ℕ) : j ∉ rng (j.val + 1) m := by simp [rng]
theorem rng_self (n : ℕ) : rng n n = ∅ := by unfold rng; exact Finset.filter_false_of_mem fun j _ => by omega

omit [FloatOps F] in
theorem bigSep_ge (j : Fin 32) (Φ : Fin 32 → sProp 𝕄) : bigSep (ge j.val) Φ = iprop(Φ j ∗ bigSep (ge (j.val + 1)) Φ) := by
  rw [ge_succ, BI.bigSep_insert (not_mem_ge j)]; rfl
omit [FloatOps F] in
theorem bigSep_lt (j : Fin 32) (Φ : Fin 32 → sProp 𝕄) : bigSep (lt (j.val + 1)) Φ = iprop(Φ j ∗ bigSep (lt j.val) Φ) := by
  rw [lt_succ, BI.bigSep_insert (not_mem_lt j)]; rfl
omit [FloatOps F] in
theorem bigSep_rng (j : Fin 32) (m : ℕ) (h : j.val < m) (Φ : Fin 32 → sProp 𝕄) :
    bigSep (rng j.val m) Φ = iprop(Φ j ∗ bigSep (rng (j.val + 1) m) Φ) := by
  rw [rng_succ j m h, BI.bigSep_insert (not_mem_rng j m)]; rfl

/-! ## What a device owes, and the levels -/

/-- One payment of kind `k` to each device from number `n` on. -/
def dueTo (k : Fin 5) (n : ℕ) : CellTallies nD τ sig Unit := ∑ j ∈ ge n, tallyAt (cellAt j k) () (amt k)

theorem dueTo_step (k : Fin 5) (j : Fin 32) : dueTo k j.val = dueTo k (j.val + 1) + tallyAt (cellAt j k) () (amt k) := by
  unfold dueTo; rw [ge_succ, Finset.sum_insert (not_mem_ge j), add_comm]
theorem dueTo_last (k : Fin 5) : dueTo k 32 = 0 := by unfold dueTo; rw [ge_last, Finset.sum_empty]

theorem dueTo_apply (k : Fin 5) (n : ℕ) (g : GSem nD τ sig) (u : Unit) :
    dueTo k n g u = ∑ j ∈ ge n, (tallyAt (cellAt j k) () (amt k) : CellTallies nD τ sig Unit) g u := by
  unfold dueTo; rw [Finset.sum_apply, Finsupp.finset_sum_apply]

theorem dueTo_pos {k : Fin 5} {n : ℕ} {g : GSem nD τ sig} {u : Unit} (h : 0 < dueTo k n g u) : ∃ j : Dev nD, g = cellAt j k := by
  rw [dueTo_apply] at h
  by_contra hn
  rw [Finset.sum_eq_zero fun j _ => by rw [tallyAt_apply, if_neg fun h' => hn ⟨j, h'.1⟩]] at h
  exact Nat.lt_irrefl 0 h

/-- What each device owes at launch: a signal, a scatter payment and a gather payment to every device. -/
def O₀ : CellTallies nD τ sig Unit := dueTo 2 0 + dueTo 4 0 + dueTo 0 0

def L (g : GSem nD τ sig) : Finset Unit := if g.1.2 = .tc then {()} else ∅
/-- Levels: barrier 1, scatter receive 2, gather receive 3, everything else 0. -/
def lv (g : GSem nD τ sig) (_ : Unit) : ℕ :=
  if g.2 = csem 0 then 1 else if g.2 = csem 2 then 2 else if g.2 = csem 4 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (cellAt c 0) u = 1 := if_pos rfl
theorem csem_ne {k l : Fin 5} (h : k ≠ l) : csem k ≠ csem l := fun e => h (csem_inj e)
theorem lv_rs (c : Dev nD) (u) : lv (cellAt c 2) u = 2 := by
  dsimp only [lv]; rw [if_neg (csem_ne (k := 2) (l := 0) (by decide)), if_pos rfl]
theorem lv_ag (c : Dev nD) (u) : lv (cellAt c 4) u = 3 := by
  dsimp only [lv]; rw [if_neg (csem_ne (k := 4) (l := 0) (by decide)), if_neg (csem_ne (k := 4) (l := 2) (by decide)), if_pos rfl]

omit [FloatOps F] in
/-- A wait on `c`'s semaphore `s` is allowed while the device owes `O`, all of it to cells of higher level. -/
theorem mayWait_of (c : Dev nD) (s : SemLoc sig) (O : CellTallies nD τ sig Unit)
    (h : ∀ (g : GSem nD τ sig) (u : Unit), 0 < O g u → ∃ (j : Dev nD) (k : Fin 5), g = cellAt j k ∧ lv ((c : Thread nD τ), s) () < lv (cellAt j k) ()) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => by obtain ⟨j, k, rfl, _⟩ := h g u hg; rw [L_tc]; exact Finset.mem_singleton_self _)
    (fun p hp => by rw [Finset.mem_singleton.mp hp])
    (fun g u hg => by obtain ⟨j, k, rfl, hl⟩ := h g u hg; exact hl)

omit [FloatOps F] in
/-- Owing the gather payments, a device may wait for its scatter receipts. -/
theorem mayWait_rs (c : Dev nD) : (levAts L lv : sProp 𝕄) ⊢ MayWait (c : Thread nD τ) (csem 2) () (dueTo 4 0) :=
  mayWait_of c (csem 2) _ fun g u hg => by
    obtain ⟨j, rfl⟩ := dueTo_pos hg
    exact ⟨j, 4, rfl, by rw [lv_ag]; rw [show lv ((c : Thread nD τ), csem 2) () = 2 from lv_rs c ()]; decide⟩

omit [FloatOps F] in
/-- Owing the scatter and the gather payments, a device may wait at the barrier. -/
theorem mayWait_bar (c : Dev nD) : (levAts L lv : sProp 𝕄) ⊢ MayWait (c : Thread nD τ) (csem 0) () (dueTo 2 0 + dueTo 4 0) :=
  mayWait_of c (csem 0) _ fun g u hg => by
    rw [Pi.add_apply, Finsupp.add_apply] at hg
    rw [show lv ((c : Thread nD τ), csem 0) () = 1 from lv_bar c ()]
    rcases Nat.add_pos_iff_pos_or_pos.mp hg with h | h
    · obtain ⟨j, rfl⟩ := dueTo_pos h; exact ⟨j, 2, rfl, by rw [lv_rs]; decide⟩
    · obtain ⟨j, rfl⟩ := dueTo_pos h; exact ⟨j, 4, rfl, by rw [lv_ag]; decide⟩

omit [FloatOps F] in
/-- A wait on a semaphore that is none of the five exchanges' receive sides is allowed owing everything, or nothing. -/
theorem mayWait_stage (c : Dev nD) (s : SemLoc sig) (hs : s ≠ csem 0 ∧ s ≠ csem 2 ∧ s ≠ csem 4) (O : CellTallies nD τ sig Unit) (hO : O = O₀ ∨ O = 0) :
    (levAts L lv : sProp 𝕄) ⊢ MayWait (c : Thread nD τ) s () O := by
  rcases hO with rfl | rfl
  · refine mayWait_of c s _ fun g u hg => ?_
    rw [show lv ((c : Thread nD τ), s) () = 0 from by dsimp only [lv]; rw [if_neg hs.1, if_neg hs.2.1, if_neg hs.2.2]]
    unfold O₀ at hg
    rw [Pi.add_apply, Finsupp.add_apply, Pi.add_apply, Finsupp.add_apply] at hg
    rcases Nat.add_pos_iff_pos_or_pos.mp hg with h | h
    · rcases Nat.add_pos_iff_pos_or_pos.mp h with h | h
      · obtain ⟨j, rfl⟩ := dueTo_pos h; exact ⟨j, 2, rfl, by rw [lv_rs]; decide⟩
      · obtain ⟨j, rfl⟩ := dueTo_pos h; exact ⟨j, 4, rfl, by rw [lv_ag]; decide⟩
    · obtain ⟨j, rfl⟩ := dueTo_pos h; exact ⟨j, 0, rfl, by rw [lv_bar]; decide⟩
  · rw [MayWait_zero]; iintro -; iempintro

end Cert.KernelIdealProof

end
-- ==== Proof.Steps.lean ====
/-
# One step of each exchange

The state a device is in within an exchange, and what one operation does to it: a signal, a copy of either kind, a wait for
one copy. Each lemma has the form "from the state after the operation the rest of the program is correct, so from the
state before it the operation and the rest are", with the other resources `R` carried along.
-/
module

public import proofs.«01_k».proof.Proof.Protocol

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (SB : Dev nD → Pieces F) (K : Dev nD × Fin 5 → ℕ)

/-- What every device knows throughout: the cells' invariants, under the names `K`, that their round has begun, and the levels. -/
def records : sProp 𝕄 :=
  iprop((bigSep Finset.univ fun ck : Dev nD × Fin 5 => cellInv ER (sched SB) (K ck) (kcell ck))
    ∗ (bigSep Finset.univ fun ck : Dev nD × Fin 5 => reached ER (kcell ck) 0) ∗ levAts L lv)

instance records_persistent : BI.Persistent (records SB K) := by unfold records; infer_instance

theorem inv_of (ck : Dev nD × Fin 5) :
    (bigSep Finset.univ fun ck : Dev nD × Fin 5 => (cellInv ER (sched SB) (K ck) (kcell ck) : sProp 𝕄)) ⊢ cellInv ER (sched SB) (K ck) (kcell ck) :=
  bigSep_elim (Finset.mem_univ ck)
omit [FloatOps F] in
theorem reached_of (ck : Dev nD × Fin 5) :
    (bigSep Finset.univ fun ck : Dev nD × Fin 5 => (reached ER (kcell ck) 0 : sProp 𝕄)) ⊢ reached ER (kcell ck) 0 :=
  bigSep_elim (Finset.mem_univ ck)
theorem inv_at (c : Dev nD) (k : Fin 5) : records SB K ⊢ cellInv ER (sched SB) (K (c, k)) (cellAt c k) := by
  unfold records; iintro ⟨#H, -, -⟩
  iapply (inv_of SB K (c, k)); iexact H
theorem reached_at (c : Dev nD) (k : Fin 5) : records SB K ⊢ reached ER (cellAt c k) 0 := by
  unfold records; iintro ⟨-, #H, -⟩
  iapply (reached_of (F := F) (c, k)); iexact H
theorem levs_at : records SB K ⊢ (levAts L lv : sProp 𝕄) := by
  unfold records; iintro ⟨-, -, #H⟩; iexact H

set_option maxRecDepth 20000 in
theorem may_at (c : Dev nD) (s : SemLoc sig) (O : CellTallies nD τ sig Unit) (hO : (levAts L lv : sProp 𝕄) ⊢ MayWait (c : Thread nD τ) s () O) :
    records SB K ⊢ MayWait (c : Thread nD τ) s () O :=
  BI.Entails.trans (levs_at SB K) hO

/-- Device `c` owes `O`. -/
def owing (c : Dev nD) (O : CellTallies nD τ sig Unit) : sProp 𝕄 := iprop(∃ W, owes (c : Thread nD τ) O W)

theorem ret_step (c : Dev nD) {α : Type} {a : α} {P : sProp 𝕄} {Q : α → sProp 𝕄} (h : P ⊢ Q a) : P ⊢ WP c (.ret a) Q := by
  unfold WP; rw [wp_ret]; exact h.trans fupd_intro

/-! ## The barrier -/

/-- Before signal `n`: the signals still to make, each with the slot and the block it hands over. -/
def sigSt (c : Dev nD) (n : ℕ) : sProp 𝕄 :=
  iprop(owing c (dueTo 2 0 + dueTo 4 0 + dueTo 0 n)
    ∗ bigSep (ge n) fun j => iprop(dutyTok ER (cellAt j 0) 0 c ∗ (∃ f, rsPts c j f) ∗ (∃ f, outPts c j f)))

theorem sig_step (c j : Dev nD) {z : Int} (hz : z = ((1 : ℕ) : Int)) {α : Type} {Q : α → sProp 𝕄}
    {k : PUnit → Prog (TpuEff nD τ sig (Elt F) Λ₀ .tc) α} {R : sProp 𝕄}
    (h : iprop(records SB K ∗ sigSt c (j.val + 1) ∗ R) ⊢ WP c (k ⟨⟩) Q) :
    iprop(records SB K ∗ sigSt c j.val ∗ R) ⊢ WP c (.op (.semSignal (j : Thread nD τ) barS z) k) Q := by
  subst hz
  unfold sigSt owing
  rw [bigSep_ge, dueTo_step 0 j, ← add_assoc]
  iintro ⟨#HR, ⟨⟨%W, HO⟩, ⟨Htok, Hpay⟩, Hrest⟩, HF⟩
  iapply (Rounds.wp_signal 𝒱₀ ER (sched SB) (c : Thread nD τ) none (dst := (j : Thread nD τ)) (κ := K (j, 0))
    (d := c) (mem_duties SB j 0 c) (amount_at SB j 0 c) () (dueTo 2 0 + dueTo 4 0 + dueTo 0 (j.val + 1)) rfl (W := W)) $$ [HO Htok Hpay]
  · isplitr; · iapply (inv_at SB K j 0); iexact HR
    isplitl [HO]; · iexact HO
    isplitl [Htok]; · iexact Htok
    isplitl [Hpay]; · iapply (Entails.of_eq ((payload_at SB j 0 c).trans (show pay SB j 0 c = iprop((∃ f, rsPts c j f) ∗ (∃ f, outPts c j f)) from rfl)).symm); iexact Hpay
    iapply (reached_at SB K j 0); iexact HR
  iintro HO
  iapply h
  unfold sigSt owing
  isplitr; · iexact HR
  isplitr [HF]
  · isplitl [HO]; · iexists W; iexact HO
    iexact Hrest
  iexact HF

/-- At the barrier wait: the device's position, its credit of 32 signals, and what it still owes. -/
def barSt (c : Dev nD) : sProp 𝕄 :=
  iprop(owing c (dueTo 2 0 + dueTo 4 0) ∗ atPos ER (cellAt c 0) 0 ∅ 0 ∗ cred (tallyAt (cellAt c 0) () (32 * amt 0)))
/-- After it: the cell spent, and slot and block `c` of every device in hand. -/
def barDone (c : Dev nD) : sProp 𝕄 :=
  iprop(owing c (dueTo 2 0 + dueTo 4 0) ∗ atPos ER (cellAt c 0) 1 ∅ 0 ∗ bigSep Finset.univ fun j : Fin 32 => iprop((∃ f, rsPts j c f) ∗ (∃ f, outPts j c f)))

theorem bar_step (c : Dev nD) {z : Int} (hz : z = ((32 * amt 0 : ℕ) : Int)) {α : Type} {Q : α → sProp 𝕄}
    {k : PUnit → Prog (TpuEff nD τ sig (Elt F) Λ₀ .tc) α} {R : sProp 𝕄}
    (h : iprop(records SB K ∗ barDone c ∗ R) ⊢ WP c (k ⟨⟩) Q) :
    iprop(records SB K ∗ barSt c ∗ R) ⊢ WP c (.op (.semWait barS z) k) Q := by
  subst hz
  unfold barSt owing
  iintro ⟨#HR, ⟨⟨%W, HO⟩, Hat, Hcr⟩, HF⟩
  iapply (Rounds.wp_wait_rest_token 𝒱₀ ER (sched SB) (c : Thread nD τ) none (κ := K (c, 0))
      (wpE_semWait_eq 𝒱₀ (c : Thread nD τ) none Set.univ) (Set.mem_univ _) () (O := dueTo 2 0 + dueTo 4 0) (W := W) (R := 0) (m := 0) (T := ∅)
      (by rw [Nat.zero_add]; exact (expect_at SB c 0).symm)) $$ [Hcr HO Hat]
  · isplitr; · iapply (inv_at SB K c 0); iexact HR
    isplitl [Hcr]; · iexact Hcr
    isplitl [HO]; · iexact HO
    isplitr
    · iapply (may_at SB K c (csem 0) (dueTo 2 0 + dueTo 4 0) (mayWait_bar c)); iexact HR
    iexact Hat
  iintro ⟨HO, Hat, -, Hpay⟩
  iapply h
  unfold barDone owing
  isplitr; · iexact HR
  isplitr [HF]
  · isplitl [HO]; · iexists (insert (csem 0, ()) W); iexact HO
    isplitl [Hat]; · iexact Hat
    have e : bigSep ((sched SB).duties (cellAt c 0) 0 \ ∅) (fun d => (sched SB).payload (cellAt c 0) 0 d)
        = bigSep Finset.univ fun j : Fin 32 => (iprop((∃ f, rsPts j c f) ∗ (∃ f, outPts j c f)) : sProp 𝕄) := by
      rw [Finset.sdiff_empty, duties_at]; exact bigSep_congr fun j _ => payload_at SB c 0 j
    ihave Hp := (Entails.of_eq e) $$ Hpay
    iexact Hp
  iexact HF

/-! ## Waits for one copy -/

/-- On the cell of kind `k`, before wait `n` of 32: some copies' payloads collected, `n` copies' credit consumed. -/
def waitSt (c : Dev nD) (k : Fin 5) (n : ℕ) : sProp 𝕄 :=
  iprop(∃ T : Finset (Fin 32), atPos ER (cellAt c k) 0 T (n * N) ∗ bigSep T (pay SB c k) ∗ bigSep (ge n) fun _ => cred (tallyAt (cellAt c k) () N))
/-- After the last wait: the cell spent, every payload in hand. -/
def waitDone (c : Dev nD) (k : Fin 5) : sProp 𝕄 :=
  iprop(atPos ER (cellAt c k) 1 ∅ 0 ∗ bigSep Finset.univ (pay SB c k))

theorem wait_step (c : Dev nD) (k : Fin 5) (hk : amt k = N) (n : Fin 32) (hn : n.val + 1 < 32) (O : CellTallies nD τ sig Unit)
    (hO : (levAts L lv : sProp 𝕄) ⊢ MayWait (c : Thread nD τ) (csem k) () O)
    {w : TpuEff nD τ sig (Elt F) Λ₀ .tc PUnit} {k' : ℕ} (hk' : k' = N)
    (hw : ∀ Q : PUnit → sProp 𝕄, wpE (defs₀ (F := F)) 𝒱₀ (c : Thread nD τ) none Set.univ w Q = waitSpec (c : Thread nD τ) Set.univ (csem k) k' Q)
    {α : Type} {Q : α → sProp 𝕄} {kk : PUnit → Prog (TpuEff nD τ sig (Elt F) Λ₀ .tc) α} {R : sProp 𝕄}
    (h : iprop(records SB K ∗ owing c O ∗ waitSt SB c k (n.val + 1) ∗ R) ⊢ WP c (kk ⟨⟩) Q) :
    iprop(records SB K ∗ owing c O ∗ waitSt SB c k n.val ∗ R) ⊢ WP c (.op w kk) Q := by
  subst hk'
  unfold waitSt owing
  rw [bigSep_ge]
  iintro ⟨#HR, ⟨%W, HO⟩, ⟨%T, Hat, HT, Hcr, Hrest⟩, HF⟩
  iapply (Rounds.wp_wait 𝒱₀ ER (sched SB) (c : Thread nD τ) none (κ := K (c, k)) hw (Set.mem_univ _)
      (cr := Finsupp.single () N) (O := O) (W := W) {(csem k, ())} (R := 0) (m := n.val * N) (T := T)
      (by rw [Util.total_single]) (image_single_subset (csem k) () N)) $$ [Hcr HO Hat]
  · isplitr; · iapply (inv_at SB K c k); iexact HR
    isplitl [Hcr]; · iexact Hcr
    isplitl [HO]; · iexact HO
    isplitr
    · iapply (may_at SB K c (csem k) O hO); iexact HR
    iexact Hat
  iintro %S ⟨%hS, HO, Hat, Hpay⟩
  iapply h
  unfold waitSt owing
  isplitr; · iexact HR
  isplitl [HO]; · iexists (W ∪ {(csem k, ())}); iexact HO
  isplitr [HF]
  · iexists S
    isplitl [Hat]; · rw [Nat.succ_mul]; iexact Hat
    isplitr [Hrest]
    · have e : bigSep S (pay SB c k) = iprop(bigSep T (pay SB c k) ∗ bigSep (S \ T) fun d => (sched SB).payload (cellAt c k) 0 d) := by
        rw [BI.bigSep_sdiff_split hS.1, bigSep_congr (s := S \ T) fun d _ => payload_at SB c k d]; rfl
      rw [e]; isplitl [HT] <;> iassumption
    iexact Hrest
  iexact HF

theorem wait_last (c : Dev nD) (k : Fin 5) (hk : amt k = N) (O : CellTallies nD τ sig Unit)
    (hO : (levAts L lv : sProp 𝕄) ⊢ MayWait (c : Thread nD τ) (csem k) () O)
    {w : TpuEff nD τ sig (Elt F) Λ₀ .tc PUnit} {k' : ℕ} (hk' : k' = N)
    (hw : ∀ Q : PUnit → sProp 𝕄, wpE (defs₀ (F := F)) 𝒱₀ (c : Thread nD τ) none Set.univ w Q = waitSpec (c : Thread nD τ) Set.univ (csem k) k' Q)
    {α : Type} {Q : α → sProp 𝕄} {kk : PUnit → Prog (TpuEff nD τ sig (Elt F) Λ₀ .tc) α} {R : sProp 𝕄}
    (h : iprop(records SB K ∗ owing c O ∗ waitDone SB c k ∗ R) ⊢ WP c (kk ⟨⟩) Q) :
    iprop(records SB K ∗ owing c O ∗ waitSt SB c k 31 ∗ R) ⊢ WP c (.op w kk) Q := by
  subst hk'
  unfold waitSt owing
  rw [show (31 : ℕ) = (31 : Fin 32).val from rfl, bigSep_ge]
  iintro ⟨#HR, ⟨%W, HO⟩, ⟨%T, Hat, HT, Hcr, -⟩, HF⟩
  iapply (Rounds.wp_wait_rest_token 𝒱₀ ER (sched SB) (c : Thread nD τ) none (κ := K (c, k)) hw (Set.mem_univ _)
      () (O := O) (W := W) (R := 0) (m := (31 : Fin 32).val * N) (T := T)
      (by rw [expect_at, hk, ← Nat.succ_mul]; rfl)) $$ [Hcr HO Hat]
  · isplitr; · iapply (inv_at SB K c k); iexact HR
    isplitl [Hcr]; · iexact Hcr
    isplitl [HO]; · iexact HO
    isplitr
    · iapply (may_at SB K c (csem k) O hO); iexact HR
    iexact Hat
  iintro ⟨HO, Hat, -, Hpay⟩
  iapply h
  unfold waitDone owing
  isplitr; · iexact HR
  isplitl [HO]; · iexists (insert (csem k, ()) W); iexact HO
  isplitr [HF]
  · isplitl [Hat]; · iexact Hat
    have e : bigSep Finset.univ (pay SB c k)
        = iprop(bigSep T (pay SB c k) ∗ bigSep ((sched SB).duties (cellAt c k) 0 \ T) fun d => (sched SB).payload (cellAt c k) 0 d) := by
      rw [duties_at, BI.bigSep_sdiff_split (Finset.subset_univ T), bigSep_congr (s := Finset.univ \ T) fun d _ => payload_at SB c k d]; rfl
    rw [e]; isplitl [HT] <;> iassumption
  iexact HF

/-! ## The copies -/

omit [FloatOps F] in
theorem sbPts_eq (c : Dev nD) (j : Fin 32) (f : Pieces F) :
    (sbPts c j f : sProp 𝕄) = ((slotM sbufM j).view.loc (c : Thread nD τ) ↦[(slotM sbufM j).view.set]{fullShare} f) := by
  rw [sbuf_set]; rfl
omit [FloatOps F] in
theorem rsPts_eq (c : Dev nD) (j : Fin 32) (f : Pieces F) :
    (rsPts c j f : sProp 𝕄) = ((slotM rsM j).view.loc (c : Thread nD τ) ↦[(slotM rsM j).view.set]{fullShare} f) := by
  rw [rs_set]; rfl
omit [FloatOps F] in
theorem outPts_eq (c : Dev nD) (j : Fin 32) (f : Result F) :
    (outPts c j f : sProp 𝕄) = ((blkM outM j).view.loc (c : Thread nD τ) ↦[(blkM outM j).view.set]{fullShare} f) := by
  rw [out_set]; rfl
omit [FloatOps F] in
theorem agPts_eq (c : Dev nD) (j : Fin 32) (f : Piece F) :
    (agPts c j f : sProp 𝕄) = (agM.view.loc (c : Thread nD τ) ↦[agM.view.set]{ShareLeaves.leaf 5 fullShare j} f) := by
  rw [show agM.view.set = Finset.univ from View.set_whole _]; rfl

theorem amt_xfer {k : Fin 5} (h : k ≠ 0) : amt k = N := if_neg h

/-- Before scatter copy `n`: what is owed, the tokens and the far slots of the copies still to make, the send slots below
    `m` not yet lent, and the credit of the copies made. -/
def sendSt (c : Dev nD) (n m : ℕ) : sProp 𝕄 :=
  iprop(owing c (dueTo 2 n + dueTo 4 0)
    ∗ (bigSep (ge n) fun j => iprop(dutyTok ER (cellAt c 1) 0 j ∗ dutyTok ER (cellAt j 2) 0 c ∗ (∃ f, rsPts j c f)))
    ∗ (bigSep (rng n m) fun j => sbPts c j (SB c))
    ∗ bigSep (lt n) fun _ => cred (tallyAt (cellAt c 1) () N))

theorem rs_pay (c j : Dev nD) (fd : Pieces F) :
    ((slotM rsM c).view.loc (j : Thread nD τ) ↦[(slotM rsM c).view.set]{fullShare}
        ((slotM rsM c).view.write (Elt F) fd ((slotM sbufM j).view.read (Elt F) (SB c)) Finset.univ) : sProp 𝕄)
      ⊢ rsPts j c (RS SB j) := by
  rw [rsPts_eq]
  refine Entails.of_eq (pointsTo_congr fun i hi => ?_)
  rw [rs_set] at hi
  refine (rs_landed c j fd (SB c) i hi).trans ?_
  show SB c _ = SB (i 0) _
  rw [(mem_slotSet i c).mp hi]

theorem send_step (c j : Dev nD) (m : ℕ) (hm : j.val < m)
    {sM dM : Memref sig .tc .vmem S8x512 .bf16} (hs : sM = slotM sbufM j) (hd : dM = slotM rsM c)
    {hsc : (dM : Memref sig (j : Thread nD τ).2.kind .vmem S8x512 .bf16).view.ref.isScScratch = false}
    {hsrc : sM.view.WordExact} {hdst : dM.view.WordExact}
    {hsem : DmaTarget.Typed .vmem (.dma cc0_scratch7.sem) (.remote (j : Thread nD τ) (dM : Memref sig .tc .vmem S8x512 .bf16) (.dma cc0_scratch6.sem) hsc)}
    {α : Type} {Q : α → sProp 𝕄} {k : PUnit → Prog (TpuEff nD τ sig (Elt F) Λ₀ .tc) α} {R : sProp 𝕄}
    (h : iprop(records SB K ∗ sendSt SB c (j.val + 1) m ∗ R) ⊢ WP c (k ⟨⟩) Q) :
    iprop(records SB K ∗ sendSt SB c j.val m ∗ R)
      ⊢ WP c (.op (.enqueueDma sM (.remote (j : Thread nD τ) dM (.dma cc0_scratch6.sem) hsc) (.dma cc0_scratch7.sem) hsrc hdst hsem) k) Q := by
  subst hs hd
  unfold sendSt owing
  rw [bigSep_ge, bigSep_rng j m hm, dueTo_step 2 j, add_right_comm, amt_xfer (k := 2) (by decide)]
  iintro ⟨#HR, ⟨⟨%W, HO⟩, ⟨⟨Ht1, Ht2, ⟨%fd, Hd⟩⟩, Hge⟩, ⟨Hs, Hrng⟩, Hlt⟩, HF⟩
  ihave Hs' := (Entails.of_eq (sbPts_eq c j (SB c))) $$ Hs
  ihave Hd' := (Entails.of_eq (rsPts_eq j c fd)) $$ Hd
  iapply (Rounds.wp_send_pointsTo 𝒱₀ ER (sched SB) (c : Thread nD τ) none (κ₁ := K (c, 1)) (κ₂ := K (j, 2))
    (r₁ := 0) (r₂ := 0) (d₁ := j) (d₂ := c) (fd := fd)
    (mem_duties SB c 1 j) (mem_duties SB j 2 c) () () N (credit_slot_rs c)
    ((amount_at SB c 1 j).trans (amt_xfer (by decide))) ((amount_at SB j 2 c).trans (amt_xfer (by decide))) (dueTo 2 (j.val + 1) + dueTo 4 0) rfl (W := W)
    (Entails.of_eq ((sbPts_eq c j (SB c)).symm.trans (payload_at SB c 1 j).symm))
    ((rs_pay SB c j fd).trans (Entails.of_eq (payload_at SB j 2 c).symm))) $$ [Hs' Hd' HO Ht1 Ht2]
  · isplitr; · iapply (inv_at SB K c 1); iexact HR
    isplitr; · iapply (inv_at SB K j 2); iexact HR
    isplitl [Hs']; · iexact Hs'
    isplitl [Hd']; · iexact Hd'
    isplitl [HO]; · iexact HO
    isplitl [Ht1]; · iexact Ht1
    isplitr; · iapply (reached_at SB K c 1); iexact HR
    isplitl [Ht2]; · iexact Ht2
    iapply (reached_at SB K j 2); iexact HR
  iintro ⟨Hcr, HO⟩
  iapply h
  unfold sendSt owing
  rw [bigSep_lt]
  isplitr; · iexact HR
  isplitr [HF]
  · isplitl [HO]; · iexists W; iexact HO
    isplitl [Hge]; · iexact Hge
    isplitl [Hrng]; · iexact Hrng
    isplitl [Hcr] <;> iassumption
  iexact HF

/-- Before gather copy `n`: what is owed, the tokens, far blocks and shares of the summed rows of the copies still to make,
    and the credit of the copies made. -/
def gatherSt (c : Dev nD) (n : ℕ) : sProp 𝕄 :=
  iprop(owing c (dueTo 4 n)
    ∗ (bigSep (ge n) fun j => iprop(dutyTok ER (cellAt c 3) 0 j ∗ dutyTok ER (cellAt j 4) 0 c ∗ (∃ f, outPts j c f) ∗ agPts c j (AG SB c)))
    ∗ bigSep (lt n) fun _ => cred (tallyAt (cellAt c 3) () N))

theorem out_pay (c j : Dev nD) (fd : Result F) :
    ((blkM outM c).view.loc (j : Thread nD τ) ↦[(blkM outM c).view.set]{fullShare}
        ((blkM outM c).view.write (Elt F) fd (agM.view.read (Elt F) (AG SB c)) Finset.univ) : sProp 𝕄)
      ⊢ outPts j c (OUT SB) := by
  rw [outPts_eq]
  refine Entails.of_eq (pointsTo_congr fun i hi => ?_)
  rw [out_set] at hi
  refine (out_landed c fd (AG SB c) i hi).trans ?_
  show AG SB c _ = AG SB (blkOf i) _
  rw [(mem_blkSet i c).mp hi]

theorem gather_step (c j : Dev nD)
    {dM : Memref sig .tc .vmem S8x512 .bf16} (hd : dM = blkM outM c)
    {hsc : (dM : Memref sig (j : Thread nD τ).2.kind .vmem S8x512 .bf16).view.ref.isScScratch = false}
    {hsrc : agM.view.WordExact} {hdst : dM.view.WordExact}
    {hsem : DmaTarget.Typed .vmem (.dma cc0_scratch9.sem) (.remote (j : Thread nD τ) (dM : Memref sig .tc .vmem S8x512 .bf16) (.dma cc0_scratch8.sem) hsc)}
    {α : Type} {Q : α → sProp 𝕄} {k : PUnit → Prog (TpuEff nD τ sig (Elt F) Λ₀ .tc) α} {R : sProp 𝕄}
    (h : iprop(records SB K ∗ gatherSt SB c (j.val + 1) ∗ R) ⊢ WP c (k ⟨⟩) Q) :
    iprop(records SB K ∗ gatherSt SB c j.val ∗ R)
      ⊢ WP c (.op (.enqueueDma agM (.remote (j : Thread nD τ) dM (.dma cc0_scratch8.sem) hsc) (.dma cc0_scratch9.sem) hsrc hdst hsem) k) Q := by
  subst hd
  unfold gatherSt owing
  rw [bigSep_ge, dueTo_step 4 j, amt_xfer (k := 4) (by decide)]
  iintro ⟨#HR, ⟨⟨%W, HO⟩, ⟨⟨Ht1, Ht2, ⟨%fd, Hd⟩, Hs⟩, Hge⟩, Hlt⟩, HF⟩
  ihave Hs' := (Entails.of_eq (agPts_eq c j (AG SB c))) $$ Hs
  ihave Hd' := (Entails.of_eq (outPts_eq j c fd)) $$ Hd
  iapply (Rounds.wp_send_pointsTo 𝒱₀ ER (sched SB) (c : Thread nD τ) none (κ₁ := K (c, 3)) (κ₂ := K (j, 4))
    (r₁ := 0) (r₂ := 0) (d₁ := j) (d₂ := c) (fd := fd)
    (mem_duties SB c 3 j) (mem_duties SB j 4 c) () () N (credit_blk c)
    ((amount_at SB c 3 j).trans (amt_xfer (by decide))) ((amount_at SB j 4 c).trans (amt_xfer (by decide))) (dueTo 4 (j.val + 1)) rfl (W := W)
    (Entails.of_eq ((agPts_eq c j (AG SB c)).symm.trans (payload_at SB c 3 j).symm))
    ((out_pay SB c j fd).trans (Entails.of_eq (payload_at SB j 4 c).symm))) $$ [Hs' Hd' HO Ht1 Ht2]
  · isplitr; · iapply (inv_at SB K c 3); iexact HR
    isplitr; · iapply (inv_at SB K j 4); iexact HR
    isplitl [Hs']; · iexact Hs'
    isplitl [Hd']; · iexact Hd'
    isplitl [HO]; · iexact HO
    isplitl [Ht1]; · iexact Ht1
    isplitr; · iapply (reached_at SB K c 3); iexact HR
    isplitl [Ht2]; · iexact Ht2
    iapply (reached_at SB K j 4); iexact HR
  iintro ⟨Hcr, HO⟩
  iapply h
  unfold gatherSt owing
  rw [bigSep_lt]
  isplitr; · iexact HR
  isplitr [HF]
  · isplitl [HO]; · iexists W; iexact HO
    isplitl [Hge]; · iexact Hge
    isplitl [Hcr] <;> iassumption
  iexact HF

end Cert.KernelIdealProof

end
-- ==== Proof.Contents.lean ====
/-
# What a device's own buffers hold

Before it sends, a device computes from its five inputs the attention of its eight heads on both batches. Each buffer it
fills on the way is named here as a whole array, though the program fills it a slab at a time:

* `scoreT b`, the scores of batch `b`, one 128×128 slab per head;
* `attnT`, the attention of both batches, 64 columns per head, from the softmax `probT b` of the scores and the values;
* `projT`, the attention times the device's rows of the output weights;
* `sendT`, the same rounded, cut into the 32 pieces that are sent.

The program's stores agree with these arrays slab by slab.
-/
module

public import proofs.«01_k».proof.Proof.Steps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## The pieces computed for one batch and one head -/

theorem slice_in (b : Fin 2) (h : Fin 8) : S256x512.Slices ![128 * b.val, 64 * h.val] S128x64 := by
  revert b h; decide +kernel
theorem slab_in (h : Fin 8) : S8x128x128.Slices ![h.val, 0, 0] S1x128x128 := by
  revert h; decide +kernel

/-- The scores of one head on one batch: its queries times its keys. -/
def scorePay (b : Fin 2) (h : Fin 8) (q k : FVec F S256x512 .bf16) : FVec F S1x128x128 .f32 :=
  shapeCast S1x128x128
    (matmul dot_S128x64_S128x64_S128x128_1_1_0_0_n_n none
      (extractStridedSlice S128x64 ![128 * b.val, 64 * h.val] q (slice_in b h))
      (extractStridedSlice S128x64 ![128 * b.val, 64 * h.val] k (slice_in b h))
      (constant S128x128 .f32 0x00000000#32))
    shapeCasts_S128x128_S1x128x128

/-- The attention of one head on one batch: its softmax times its values. -/
def attnPay (b : Fin 2) (h : Fin 8) (p : FVec F S8x128x128 .bf16) (v : FVec F S256x512 .bf16) : FVec F S1x128x64 .bf16 :=
  shapeCast S1x128x64
    (truncf .bf16
      (matmul dot_S128x128_S128x64_S128x64_1_0_0_1_n_n none
        (shapeCast S128x128 (extractStridedSlice S1x128x128 ![h.val, 0, 0] p (slab_in h)) shapeCasts_S1x128x128_S128x128)
        (extractStridedSlice S128x64 ![128 * b.val, 64 * h.val] v (slice_in b h))
        (constant S128x64 .f32 0x00000000#32))
      bitsLt_bf16_f32)
    shapeCasts_S128x64_S1x128x64

/-! ## The arrays -/

section Arrays
variable (X : Vec F S2x128x512 .bf16) (WQ WK WV WO : Vec F S512x512 .bf16)

/-- The queries, keys and values of the device's heads, both batches' rows below one another. -/
def qT : FVec F S256x512 .bf16 := k0_pay2 X WQ
def kT : FVec F S256x512 .bf16 := k0_pay3 (k0_pay1 X) WK
def vT : FVec F S256x512 .bf16 := k0_pay4 (k0_pay1 X) WV
/-- The device's rows of the output weights. -/
def woT : FVec F S512x512 .bf16 := k0_pay5 WO

/-- The scores of batch `b`. -/
def scoreT (b : Fin 2) : S8x128x128.Idx → Elt F .f32 := fun i =>
  scorePay b (i 0) (qT X WQ) (kT X WK) (ix3 0 (i 1) (i 2))
/-- The softmax of batch `b`'s scores. -/
def probT (b : Fin 2) : FVec F S8x128x128 .bf16 := k0_pay15 (k0_pay14 (scoreT X WQ WK b))

/-- The head a column belongs to. -/
def headOf (n : Fin 512) : Fin 8 := ⟨n.val / 64, by have := n.isLt; omega⟩
/-- The column within the head. -/
def colOf (n : Fin 512) : Fin 64 := ⟨n.val % 64, Nat.mod_lt _ (by decide)⟩

/-- The attention of both batches. -/
def attnT : S2x128x512.Idx → Elt F .bf16 := fun i =>
  attnPay (i 0) (headOf (i 2)) (probT X WQ WK (i 0)) (vT X WV) (ix3 0 (i 1) (colOf (i 2)))

/-- Batch `b` of an array of both. -/
def batch {α : Type} (b : Fin 2) (T : S2x128x512.Idx → α) : S1x128x512.Idx → α := fun x => T (ix3 b (x 1) (x 2))

/-- The attention times the output weights. -/
def projT : S2x128x512.Idx → Elt F .f32 := fun i =>
  k0_pay25 (woT WO) (batch (i 0) (attnT X WQ WK WV)) (ix3 0 (i 1) (i 2))

/-- The half of the 32 pieces a piece is in, and its number there. -/
def halfOf (j : Fin 32) : Fin 2 := ⟨j.val / 16, by have := j.isLt; omega⟩
def inHalf (j : Fin 32) : Fin 16 := ⟨j.val % 16, Nat.mod_lt _ (by decide)⟩

/-- The pieces that are sent. -/
def sendT : Pieces F := fun i =>
  k0_pay26 (batch (halfOf (i 0)) (projT X WQ WK WV WO)) (ix3 (inHalf (i 0)) (i 1) (i 2))

end Arrays

/-! ## A buffer filled up to some elements -/

section Filled
variable {s : Shape} {e : EltTy} (m : Memref sig .tc .vmem s e)

/-- The elements `I` of the buffer under `m` on device `c` are held, and those satisfying `P` are `T`'s. -/
def filled (c : Dev nD) (I : Finset m.view.ty.Idx) (P : m.view.ty.Idx → Prop) (T : m.view.ty.Contents (Elt F)) : sProp 𝕄 :=
  iprop(∃ f : m.view.ty.Contents (Elt F), ⌜∀ i, P i → f i = T i⌝ ∗ (m.view.loc (c : Thread nD τ)) ↦[I]{fullShare} f)

variable {m} (c : Dev nD)
  {I : Finset m.view.ty.Idx} {P : m.view.ty.Idx → Prop} {T : m.view.ty.Contents (Elt F)}

/-- A load from a held buffer, for whatever it reads. -/
theorem load_any {α : Type} {Q : α → sProp 𝕄} {R : sProp 𝕄} {r : Rect s} {hl : m.view.LoadsAt r} (hI : (m.access r).set ⊆ I)
    {k : (r.shape.Idx → Elt F e) → Prog (TpuEff nD τ sig (Elt F) Λ₀ .tc) α}
    (h : ∀ v, iprop(filled m c I P T ∗ R) ⊢ WP c (k v) Q) :
    iprop(filled m c I P T ∗ R) ⊢ WP c (.op (.load m r hl) k) Q := by
  unfold filled
  iintro ⟨⟨%f, %hf, Hx⟩, HR⟩
  iapply (wp_load_rect 𝒱₀ (c : Thread nD τ) none Set.univ (m := m) (r := r) (S := I) hI) $$ Hx
  iintro Hx
  iapply (h _)
  isplitl [Hx]
  · unfold filled; iexists f; isplitr
    · ipureintro; exact hf
    · iexact Hx
  · iexact HR

/-- A load of elements already filled reads `T`'s. -/
theorem load_filled {α : Type} {Q : α → sProp 𝕄} {R : sProp 𝕄} {r : Rect s} {hl : m.view.LoadsAt r} (hI : (m.access r).set ⊆ I)
    (hP : ∀ i ∈ (m.access r).set, P i)
    {k : (r.shape.Idx → Elt F e) → Prog (TpuEff nD τ sig (Elt F) Λ₀ .tc) α}
    (h : iprop(filled m c I P T ∗ R) ⊢ WP c (k ((m.access r).read (Elt F) T)) Q) :
    iprop(filled m c I P T ∗ R) ⊢ WP c (.op (.load m r hl) k) Q := by
  unfold filled
  iintro ⟨⟨%f, %hf, Hx⟩, HR⟩
  iapply (wp_load_rect 𝒱₀ (c : Thread nD τ) none Set.univ (m := m) (r := r) (S := I) hI) $$ Hx
  iintro Hx
  have hr : (m.access r).read (Elt F) f = (m.access r).read (Elt F) T :=
    funext fun x => by rw [View.read_apply, View.read_apply]; exact congrArg _ (hf _ (hP _ ((m.access r).emb_mem_set x)))
  rw [hr]
  iapply h
  isplitl [Hx]
  · unfold filled; iexists f; isplitr
    · ipureintro; exact hf
    · iexact Hx
  · iexact HR

/-- A store of `T`'s elements fills the ones it covers; the others may be kept or forgotten. -/
theorem store_filled {α : Type} {Q : α → sProp 𝕄} {R : sProp 𝕄} {P' : m.view.ty.Idx → Prop} {r : Rect s} {w : r.shape.Idx → Elt F e}
    {hx : (m.access r).Stores Finset.univ} {hm : (Finset.univ : Finset r.shape.Idx) = Finset.univ ∨ ∀ a, r.stride a = 1}
    (hI : (m.access r).set ⊆ I) (hw : w = (m.access r).read (Elt F) T)
    (hP : ∀ i, P' i → i ∉ (m.access r).set → P i)
    {k : PUnit → Prog (TpuEff nD τ sig (Elt F) Λ₀ .tc) α}
    (h : iprop(filled m c I P' T ∗ R) ⊢ WP c (k ⟨⟩) Q) :
    iprop(filled m c I P T ∗ R) ⊢ WP c (.op (.store m r w Finset.univ hx hm) k) Q := by
  unfold filled
  iintro ⟨⟨%f, %hf, Hx⟩, HR⟩
  iapply (wp_store 𝒱₀ (c : Thread nD τ) none Set.univ (m := m) (r := r) (w := w) (S := I) hI) $$ Hx
  iintro Hx
  have hf' : ∀ i, P' i → (m.access r).write (Elt F) f w Finset.univ i = T i := by
    intro i hi
    by_cases hmem : i ∈ (m.access r).set
    · obtain ⟨x, -, rfl⟩ := Finset.mem_map.mp hmem
      refine ((m.access r).write_emb_of_mem (Val := Elt F) f w (Finset.mem_univ x)).trans ?_
      rw [hw, View.read_apply]
      simp
    · exact ((m.access r).write_of_not_mem f w Finset.univ hmem).trans (hf i (hP i hi hmem))
  iapply h
  isplitl [Hx]
  · unfold filled; iexists ((m.access r).write (Elt F) f w Finset.univ); isplitr
    · ipureintro; exact hf'
    · iexact Hx
  · iexact HR

end Filled

end Cert.KernelIdealProof
end
-- ==== Proof.Fill.lean ====
/-
# Filling the device's own buffers

One lemma for each kind of store the attention makes: a slab of scores, 64 columns of attention, a batch of projected rows,
half of the pieces sent. Each says how far its buffer agrees with its array after the store, so that the program's stores
are consecutive uses of these lemmas, and a later load reads the array.
-/
module

public import proofs.«01_k».proof.Proof.Contents

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

abbrev atM : Memref sig .tc .vmem S2x128x512 .bf16 := Memref.whole cc0_scratch0
abbrev pjM : Memref sig .tc .vmem S2x128x512 .f32 := Memref.whole cc0_scratch1
abbrev scM : Memref sig .tc .vmem S8x128x128 .f32 := Memref.whole cc0_scratch2

/-! ## What is held of a buffer may be forgotten, and exchanged with what follows it -/

theorem filled_mono {s : Shape} {e : EltTy} {m : Memref sig .tc .vmem s e} (c : Dev nD) {I : Finset m.view.ty.Idx}
    {P P' : m.view.ty.Idx → Prop} {T T' : m.view.ty.Contents (Elt F)} (h : ∀ i, P' i → P i ∧ T i = T' i) :
    filled m c I P T ⊢ filled m c I P' T' := by
  unfold filled
  iintro ⟨%f, %hf, Hx⟩
  iexists f; isplitr
  · ipureintro; exact fun i hi => (hf i (h i hi).1).trans (h i hi).2
  · iexact Hx

theorem swap {A B R X : sProp 𝕄} (h : iprop(B ∗ A ∗ R) ⊢ X) : iprop(A ∗ B ∗ R) ⊢ X := by
  iintro ⟨HA, HB, HR⟩
  iapply h
  isplitl [HB]; · iexact HB
  isplitl [HA]; · iexact HA
  iexact HR

theorem first {A A' R X : sProp 𝕄} (hA : A ⊢ A') (h : iprop(A' ∗ R) ⊢ X) : iprop(A ∗ R) ⊢ X :=
  BI.Entails.trans (sep_mono_left hA) h

section
variable (X : Vec F S2x128x512 .bf16) (WQ WK WV WO : Vec F S512x512 .bf16) (c : Dev nD)

/-! ## Scores -/

/-- Batch `b`'s scores are in place for the heads below `n`. -/
def scSt (b : Fin 2) (n : ℕ) : sProp 𝕄 := filled scM c Finset.univ (fun i => (i 0).val < n) (scoreT X WQ WK b)

abbrev slabR (h : Fin 8) (inb : ∀ a, (![h.val, 0, 0] : Fin 3 → Nat) a + S1x128x128.size a ≤ S8x128x128.size a) : Rect S8x128x128 :=
  Rect.unit (s := S8x128x128) ![h.val, 0, 0] S1x128x128.size inb

theorem slab_emb (h : Fin 8) (inb) (x : S1x128x128.Idx) : (slabR h inb).emb x = ix3 h (x 1) (x 2) := by
  funext a
  refine Fin.ext ((Rect.emb_apply _ _ _).trans ?_)
  have hx : (x 0).val < 1 := (x 0).isLt
  match a with
  | ⟨0, _⟩ => show h.val + 1 * (x 0).val = h.val; omega
  | ⟨1, _⟩ => show 0 + 1 * (x 1).val = (x 1).val; omega
  | ⟨2, _⟩ => show 0 + 1 * (x 2).val = (x 2).val; omega

theorem ix3_unit {n m : ℕ} (x : (⟨3, ![1, n, m]⟩ : Shape).Idx) : ix3 (0 : Fin 1) (x 1) (x 2) = x := by
  funext a
  match a with
  | ⟨0, _⟩ => exact (Fin.ext (by have : (x 0).val < 1 := (x 0).isLt; show 0 = (x 0).val; omega))
  | ⟨1, _⟩ => rfl
  | ⟨2, _⟩ => rfl

theorem slab_mem (h : Fin 8) (inb) (i : S8x128x128.Idx) (hi : i 0 = h) : i ∈ (scM.access (slabR h inb)).set :=
  Finset.mem_map.mpr ⟨ix3 0 (i 1) (i 2), Finset.mem_univ _, (slab_emb h inb _).trans (by rw [← hi]; exact (eq_ix3 i).symm)⟩

theorem slab_read (b : Fin 2) (h : Fin 8) (inb) :
    scorePay b h (qT X WQ) (kT X WK) = (scM.access (slabR h inb)).read (Elt F) (scoreT X WQ WK b) := by
  funext x
  refine Eq.trans ?_ (congrArg (scoreT X WQ WK b) (slab_emb h inb x)).symm
  exact congrArg (scorePay b h (qT X WQ) (kT X WK)) (ix3_unit x).symm

theorem slab_load {α : Type} {Q : α → sProp 𝕄} {R : sProp 𝕄} (b : Fin 2) (n : ℕ) (h : Fin 8) {inb} {hl : scM.view.LoadsAt (slabR h inb).toLoadRect}
    {k : (S1x128x128.Idx → Elt F .f32) → Prog (TpuEff nD τ sig (Elt F) Λ₀ .tc) α}
    (H : ∀ v, iprop(scSt X WQ WK c b n ∗ R) ⊢ WP c (k v) Q) :
    iprop(scSt X WQ WK c b n ∗ R) ⊢ WP c (.op (.load scM (slabR h inb).toLoadRect hl) k) Q :=
  load_any c (m := scM) (I := Finset.univ) (P := fun i => (i 0).val < n) (T := scoreT X WQ WK b) (r := slabR h inb) (Finset.subset_univ _) H

theorem slab_store {α : Type} {Q : α → sProp 𝕄} {R : sProp 𝕄} (b : Fin 2) (h : Fin 8) {inb} {w : S1x128x128.Idx → Elt F .f32}
    {hx : (scM.access (slabR h inb)).Stores Finset.univ} {hm} (hw : w = scorePay b h (qT X WQ) (kT X WK))
    {k : PUnit → Prog (TpuEff nD τ sig (Elt F) Λ₀ .tc) α}
    (H : iprop(scSt X WQ WK c b (h.val + 1) ∗ R) ⊢ WP c (k ⟨⟩) Q) :
    iprop(scSt X WQ WK c b h.val ∗ R) ⊢ WP c (.op (.store scM (slabR h inb) w Finset.univ hx hm) k) Q :=
  store_filled c (m := scM) (I := Finset.univ) (P := fun i => (i 0).val < h.val) (P' := fun i => (i 0).val < h.val + 1)
    (T := scoreT X WQ WK b) (r := slabR h inb) (Finset.subset_univ _) (hw.trans (slab_read X WQ WK b h inb))
    (fun i hi hn => by
      have : i 0 ≠ h := fun e => hn (slab_mem h inb i e)
      have h' : (i 0).val ≠ h.val := fun e => this (Fin.ext e)
      show (i 0).val < h.val; have : (i 0).val < h.val + 1 := hi; omega) H

/-- One slab: the load before the store reads nothing that is used. -/
theorem slab_step {α : Type} {Q : α → sProp 𝕄} {R : sProp 𝕄} (b : Fin 2) (h : Fin 8) {inb} {hl : scM.view.LoadsAt (slabR h inb).toLoadRect} {w : S1x128x128.Idx → Elt F .f32}
    {hx : (scM.access (slabR h inb)).Stores Finset.univ} {hm} (hw : w = scorePay b h (qT X WQ) (kT X WK))
    {k : PUnit → Prog (TpuEff nD τ sig (Elt F) Λ₀ .tc) α}
    (H : iprop(scSt X WQ WK c b (h.val + 1) ∗ R) ⊢ WP c (k ⟨⟩) Q) :
    iprop(scSt X WQ WK c b h.val ∗ R)
      ⊢ WP c (.op (.load scM (slabR h inb).toLoadRect hl) fun _ => .op (.store scM (slabR h inb) w Finset.univ hx hm) k) Q :=
  slab_load X WQ WK c b h.val h fun _ => slab_store X WQ WK c b h hw H

/-- All slabs in place, a load of the buffer reads the scores. -/
theorem scores_load {α : Type} {Q : α → sProp 𝕄} {R : sProp 𝕄} (b : Fin 2) {inb} {hl}
    {k : (S8x128x128.Idx → Elt F .f32) → Prog (TpuEff nD τ sig (Elt F) Λ₀ .tc) α}
    (H : iprop(scSt X WQ WK c b 8 ∗ R) ⊢ WP c (k (scoreT X WQ WK b)) Q) :
    iprop(scSt X WQ WK c b 8 ∗ R)
      ⊢ WP c (.op (.load scM (Rect.unit (s := S8x128x128) ![0, 0, 0] S8x128x128.size inb).toLoadRect hl) k) Q :=
  load_filled c (m := scM) (I := Finset.univ) (P := fun i => (i 0).val < 8) (T := scoreT X WQ WK b) (r := Rect.unit (s := S8x128x128) ![0, 0, 0] S8x128x128.size inb) (Finset.subset_univ _)
    (fun i _ => (i 0).isLt)
    (by
      have e : (scM.access (Rect.unit (s := S8x128x128) ![0, 0, 0] S8x128x128.size inb)).read (Elt F) (scoreT X WQ WK b) = scoreT X WQ WK b :=
        Memref.read_access_unit_zero (Elt F) cc0_scratch2 (by decide) _ _
      rw [e]; exact H)

theorem scSt_start (b b' : Fin 2) (n : ℕ) : scSt X WQ WK c b n ⊢ scSt X WQ WK c b' 0 :=
  filled_mono c fun _ h => absurd h (Nat.not_lt_zero _)

/-! ## Attention -/

/-- Batch `b`'s attention is in place for the heads below `n`. -/
def atSt (b : Fin 2) (n : ℕ) : sProp 𝕄 :=
  filled atM c Finset.univ (fun i => i 0 = b ∧ (i 2).val < 64 * n) (attnT X WQ WK WV)

abbrev colsR (b : Fin 2) (h : Fin 8) (inb : ∀ a, (![b.val, 0, 64 * h.val] : Fin 3 → Nat) a + S1x128x64.size a ≤ S2x128x512.size a) :
    Rect S2x128x512 := Rect.unit (s := S2x128x512) ![b.val, 0, 64 * h.val] S1x128x64.size inb

/-- Column `n` of head `h`. -/
abbrev headCol (h : Fin 8) (n : Fin 64) : Fin 512 := ⟨64 * h.val + n.val, by omega⟩

theorem cols_emb (b : Fin 2) (h : Fin 8) (inb) (x : S1x128x64.Idx) : (colsR b h inb).emb x = ix3 b (x 1) (headCol h (x 2)) := by
  funext a
  refine Fin.ext ((Rect.emb_apply _ _ _).trans ?_)
  have hx : (x 0).val < 1 := (x 0).isLt
  match a with
  | ⟨0, _⟩ => show b.val + 1 * (x 0).val = b.val; omega
  | ⟨1, _⟩ => show 0 + 1 * (x 1).val = (x 1).val; omega
  | ⟨2, _⟩ => show 64 * h.val + 1 * (x 2).val = 64 * h.val + (x 2).val; omega

theorem headOf_headCol (h : Fin 8) (n : Fin 64) : headOf (headCol h n) = h :=
  Fin.ext (by show (64 * h.val + n.val) / 64 = h.val; omega)
theorem colOf_headCol (h : Fin 8) (n : Fin 64) : colOf (headCol h n) = n :=
  Fin.ext (by show (64 * h.val + n.val) % 64 = n.val; omega)

theorem cols_mem (b : Fin 2) (h : Fin 8) (inb) (i : S2x128x512.Idx) (hb : i 0 = b) (hi : (i 2).val / 64 = h.val) :
    i ∈ (atM.access (colsR b h inb)).set :=
  Finset.mem_map.mpr ⟨ix3 0 (i 1) (colOf (i 2)), Finset.mem_univ _, (cols_emb b h inb _).trans (by
    subst hb
    funext a
    match a with
    | ⟨0, _⟩ => rfl
    | ⟨1, _⟩ => rfl
    | ⟨2, _⟩ => exact Fin.ext (by show 64 * h.val + (i 2).val % 64 = (i 2).val; omega))⟩

theorem attn_at (b : Fin 2) (h : Fin 8) (a : Fin 128) (n : Fin 64) :
    attnT X WQ WK WV (ix3 b a (headCol h n)) = attnPay b h (probT X WQ WK b) (vT X WV) (ix3 0 a n) := by
  show attnPay b (headOf (headCol h n)) (probT X WQ WK b) (vT X WV) (ix3 0 a (colOf (headCol h n))) = _
  rw [headOf_headCol, colOf_headCol]

theorem cols_read (b : Fin 2) (h : Fin 8) (inb) :
    attnPay b h (probT X WQ WK b) (vT X WV) = (atM.access (colsR b h inb)).read (Elt F) (attnT X WQ WK WV) := by
  funext x
  refine Eq.trans ?_ (congrArg (attnT X WQ WK WV) (cols_emb b h inb x)).symm
  refine Eq.trans ?_ (attn_at X WQ WK WV b h (x 1) (x 2)).symm
  exact congrArg (attnPay b h (probT X WQ WK b) (vT X WV)) (ix3_unit x).symm

theorem cols_load {α : Type} {Q : α → sProp 𝕄} {R : sProp 𝕄} (b : Fin 2) (n : ℕ) (h : Fin 8) {inb} {hl : atM.view.LoadsAt (colsR b h inb).toLoadRect}
    {k : (S1x128x64.Idx → Elt F .bf16) → Prog (TpuEff nD τ sig (Elt F) Λ₀ .tc) α}
    (H : ∀ v, iprop(atSt X WQ WK WV c b n ∗ R) ⊢ WP c (k v) Q) :
    iprop(atSt X WQ WK WV c b n ∗ R) ⊢ WP c (.op (.load atM (colsR b h inb).toLoadRect hl) k) Q :=
  load_any c (m := atM) (I := Finset.univ) (P := fun i => i 0 = b ∧ (i 2).val < 64 * n) (T := attnT X WQ WK WV) (r := colsR b h inb) (Finset.subset_univ _) H

theorem cols_store {α : Type} {Q : α → sProp 𝕄} {R : sProp 𝕄} (b : Fin 2) (h : Fin 8) {inb} {w : S1x128x64.Idx → Elt F .bf16}
    {hx : (atM.access (colsR b h inb)).Stores Finset.univ} {hm} (hw : w = attnPay b h (probT X WQ WK b) (vT X WV))
    {k : PUnit → Prog (TpuEff nD τ sig (Elt F) Λ₀ .tc) α}
    (H : iprop(atSt X WQ WK WV c b (h.val + 1) ∗ R) ⊢ WP c (k ⟨⟩) Q) :
    iprop(atSt X WQ WK WV c b h.val ∗ R) ⊢ WP c (.op (.store atM (colsR b h inb) w Finset.univ hx hm) k) Q :=
  store_filled c (m := atM) (I := Finset.univ) (P := fun i => i 0 = b ∧ (i 2).val < 64 * h.val)
    (P' := fun i => i 0 = b ∧ (i 2).val < 64 * (h.val + 1)) (T := attnT X WQ WK WV) (r := colsR b h inb) (Finset.subset_univ _) (hw.trans (cols_read X WQ WK WV b h inb))
    (fun i hi hn => by
      have hne : (i 2).val / 64 ≠ h.val := fun e => hn (cols_mem b h inb i hi.1 e)
      have hlt : (i 2).val < 64 * (h.val + 1) := hi.2
      exact ⟨hi.1, by omega⟩) H

/-- The columns of one head: the load before the store reads nothing that is used. -/
theorem cols_step {α : Type} {Q : α → sProp 𝕄} {R : sProp 𝕄} (b : Fin 2) (h : Fin 8) {inb} {hl : atM.view.LoadsAt (colsR b h inb).toLoadRect} {w : S1x128x64.Idx → Elt F .bf16}
    {hx : (atM.access (colsR b h inb)).Stores Finset.univ} {hm} (hw : w = attnPay b h (probT X WQ WK b) (vT X WV))
    {k : PUnit → Prog (TpuEff nD τ sig (Elt F) Λ₀ .tc) α}
    (H : iprop(atSt X WQ WK WV c b (h.val + 1) ∗ R) ⊢ WP c (k ⟨⟩) Q) :
    iprop(atSt X WQ WK WV c b h.val ∗ R)
      ⊢ WP c (.op (.load atM (colsR b h inb).toLoadRect hl) fun _ => .op (.store atM (colsR b h inb) w Finset.univ hx hm) k) Q :=
  cols_load X WQ WK WV c b h.val h fun _ => cols_store X WQ WK WV c b h hw H

theorem atSt_start (b b' : Fin 2) (n : ℕ) : atSt X WQ WK WV c b n ⊢ atSt X WQ WK WV c b' 0 :=
  filled_mono c fun _ h => absurd h.2 (Nat.not_lt_zero _)

/-! ## A batch of 128 rows -/

abbrev rowsR (b : Fin 2) (inb : ∀ a, (![b.val, 0, 0] : Fin 3 → Nat) a + S1x128x512.size a ≤ S2x128x512.size a) : Rect S2x128x512 :=
  Rect.unit (s := S2x128x512) ![b.val, 0, 0] S1x128x512.size inb

theorem rows_emb (b : Fin 2) (inb) (x : S1x128x512.Idx) : (rowsR b inb).emb x = ix3 b (x 1) (x 2) := by
  funext a
  refine Fin.ext ((Rect.emb_apply _ _ _).trans ?_)
  have hx : (x 0).val < 1 := (x 0).isLt
  match a with
  | ⟨0, _⟩ => show b.val + 1 * (x 0).val = b.val; omega
  | ⟨1, _⟩ => show 0 + 1 * (x 1).val = (x 1).val; omega
  | ⟨2, _⟩ => show 0 + 1 * (x 2).val = (x 2).val; omega

/-- All heads in place, a load of the batch reads its attention. -/
theorem attn_load {α : Type} {Q : α → sProp 𝕄} {R : sProp 𝕄} (b : Fin 2) {inb} {hl : atM.view.LoadsAt (rowsR b inb).toLoadRect}
    {k : (S1x128x512.Idx → Elt F .bf16) → Prog (TpuEff nD τ sig (Elt F) Λ₀ .tc) α}
    (H : iprop(atSt X WQ WK WV c b 8 ∗ R) ⊢ WP c (k (batch b (attnT X WQ WK WV))) Q) :
    iprop(atSt X WQ WK WV c b 8 ∗ R) ⊢ WP c (.op (.load atM (rowsR b inb).toLoadRect hl) k) Q :=
  load_filled c (m := atM) (I := Finset.univ) (P := fun i => i 0 = b ∧ (i 2).val < 64 * 8) (T := attnT X WQ WK WV) (r := rowsR b inb) (Finset.subset_univ _)
    (fun i hi => by
      obtain ⟨x, -, hx⟩ := Finset.mem_map.mp hi
      have hx' : ix3 b (x 1) (x 2) = i := (rows_emb b inb x).symm.trans hx
      subst hx'
      exact ⟨rfl, (x 2).isLt⟩)
    (by
      have e : (atM.access (rowsR b inb)).read (Elt F) (attnT X WQ WK WV) = batch b (attnT X WQ WK WV) :=
        funext fun x => congrArg (attnT X WQ WK WV) (rows_emb b inb x)
      rw [e]; exact H)

/-- Batch `b`'s projected rows are in place, if `v`. -/
def pjSt (b : Fin 2) (v : Prop) : sProp 𝕄 :=
  filled pjM c Finset.univ (fun i => v ∧ i 0 = b) (projT X WQ WK WV WO)

theorem pjSt_start (b b' : Fin 2) (v : Prop) : pjSt X WQ WK WV WO c b v ⊢ pjSt X WQ WK WV WO c b' False :=
  filled_mono c fun _ h => h.1.elim

theorem proj_step {α : Type} {Q : α → sProp 𝕄} {R : sProp 𝕄} (b : Fin 2) {inb} {hl : pjM.view.LoadsAt (rowsR b inb).toLoadRect} {w : S1x128x512.Idx → Elt F .f32}
    {hx : (pjM.access (rowsR b inb)).Stores Finset.univ} {hm} (hw : w = k0_pay25 (woT WO) (batch b (attnT X WQ WK WV)))
    {k : PUnit → Prog (TpuEff nD τ sig (Elt F) Λ₀ .tc) α}
    (H : iprop(pjSt X WQ WK WV WO c b True ∗ R) ⊢ WP c (k ⟨⟩) Q) :
    iprop(pjSt X WQ WK WV WO c b False ∗ R)
      ⊢ WP c (.op (.load pjM (rowsR b inb).toLoadRect hl) fun _ => .op (.store pjM (rowsR b inb) w Finset.univ hx hm) k) Q :=
  load_any c (m := pjM) (I := Finset.univ) (P := fun i => False ∧ i 0 = b) (T := projT X WQ WK WV WO) (r := rowsR b inb) (Finset.subset_univ _) fun _ =>
    store_filled c (m := pjM) (I := Finset.univ) (P := fun i => False ∧ i 0 = b) (P' := fun i => True ∧ i 0 = b)
      (T := projT X WQ WK WV WO) (r := rowsR b inb) (Finset.subset_univ _)
      (hw.trans (funext fun x => by
        refine Eq.trans ?_ (congrArg (projT X WQ WK WV WO) (rows_emb b inb x)).symm
        exact congrArg (k0_pay25 (woT WO) (batch b (attnT X WQ WK WV))) (ix3_unit x).symm))
      (fun i hi hn => absurd (Finset.mem_map.mpr ⟨ix3 0 (i 1) (i 2), Finset.mem_univ _, (rows_emb b inb _).trans
        (by rw [← hi.2]; exact (eq_ix3 i).symm)⟩) hn) H

theorem proj_load {α : Type} {Q : α → sProp 𝕄} {R : sProp 𝕄} (b : Fin 2) {inb} {hl : pjM.view.LoadsAt (rowsR b inb).toLoadRect}
    {k : (S1x128x512.Idx → Elt F .f32) → Prog (TpuEff nD τ sig (Elt F) Λ₀ .tc) α}
    (H : iprop(pjSt X WQ WK WV WO c b True ∗ R) ⊢ WP c (k (batch b (projT X WQ WK WV WO))) Q) :
    iprop(pjSt X WQ WK WV WO c b True ∗ R) ⊢ WP c (.op (.load pjM (rowsR b inb).toLoadRect hl) k) Q :=
  load_filled c (m := pjM) (I := Finset.univ) (P := fun i => True ∧ i 0 = b) (T := projT X WQ WK WV WO) (r := rowsR b inb) (Finset.subset_univ _)
    (fun i hi => by
      obtain ⟨x, -, hx⟩ := Finset.mem_map.mp hi
      have hx' : ix3 b (x 1) (x 2) = i := (rows_emb b inb x).symm.trans hx
      subst hx'
      exact ⟨trivial, rfl⟩)
    (by
      have e : (pjM.access (rowsR b inb)).read (Elt F) (projT X WQ WK WV WO) = batch b (projT X WQ WK WV WO) :=
        funext fun x => congrArg (projT X WQ WK WV WO) (rows_emb b inb x)
      rw [e]; exact H)

/-! ## The pieces to send -/

/-- Slots `16 b` to `16 b + 15` of the send buffer. -/
def halfSet (b : Fin 2) : Finset S32x8x512.Idx := Finset.univ.filter fun i => (i 0).val / 16 = b.val

/-- Half `b` of the send buffer is held, and filled if `v`. -/
def sdSt (b : Fin 2) (v : Prop) : sProp 𝕄 := filled sbufM c (halfSet b) (fun i => v ∧ (i 0).val / 16 = b.val) (sendT X WQ WK WV WO)

abbrev halfR (b : Fin 2) (inb : ∀ a, (![16 * b.val, 0, 0] : Fin 3 → Nat) a + S16x8x512.size a ≤ S32x8x512.size a) : Rect S32x8x512 :=
  Rect.unit (s := S32x8x512) ![16 * b.val, 0, 0] S16x8x512.size inb

abbrev halfSlot (b : Fin 2) (j : Fin 16) : Fin 32 := ⟨16 * b.val + j.val, by omega⟩

theorem half_emb (b : Fin 2) (inb) (x : S16x8x512.Idx) : (halfR b inb).emb x = ix3 (halfSlot b (x 0)) (x 1) (x 2) := by
  funext a
  refine Fin.ext ((Rect.emb_apply _ _ _).trans ?_)
  match a with
  | ⟨0, _⟩ => show 16 * b.val + 1 * (x 0).val = 16 * b.val + (x 0).val; omega
  | ⟨1, _⟩ => show 0 + 1 * (x 1).val = (x 1).val; omega
  | ⟨2, _⟩ => show 0 + 1 * (x 2).val = (x 2).val; omega

theorem half_sub (b : Fin 2) (inb) : (sbufM.access (halfR b inb)).set ⊆ halfSet b := by
  intro i hi
  obtain ⟨x, -, hx⟩ := Finset.mem_map.mp hi
  have hx' : ix3 (halfSlot b (x 0)) (x 1) (x 2) = i := (half_emb b inb x).symm.trans hx
  subst hx'
  have h0 : (x 0).val < 16 := (x 0).isLt
  exact Finset.mem_filter.mpr ⟨Finset.mem_univ _, by show (16 * b.val + (x 0).val) / 16 = b.val; omega⟩

theorem halfOf_halfSlot (b : Fin 2) (j : Fin 16) : halfOf (halfSlot b j) = b := Fin.ext (by show (16 * b.val + j.val) / 16 = b.val; omega)
theorem inHalf_halfSlot (b : Fin 2) (j : Fin 16) : inHalf (halfSlot b j) = j := Fin.ext (by show (16 * b.val + j.val) % 16 = j.val; omega)

theorem send_at (b : Fin 2) (j : Fin 16) (a : Fin 8) (n : Fin 512) :
    sendT X WQ WK WV WO (ix3 (halfSlot b j) a n) = k0_pay26 (batch b (projT X WQ WK WV WO)) (ix3 j a n) := by
  show k0_pay26 (batch (halfOf (halfSlot b j)) (projT X WQ WK WV WO)) (ix3 (inHalf (halfSlot b j)) a n) = _
  rw [halfOf_halfSlot, inHalf_halfSlot]

theorem half_step {α : Type} {Q : α → sProp 𝕄} {R : sProp 𝕄} (b : Fin 2) {inb} {hl : sbufM.view.LoadsAt (halfR b inb).toLoadRect} {w : S16x8x512.Idx → Elt F .bf16}
    {hx : (sbufM.access (halfR b inb)).Stores Finset.univ} {hm} (hw : w = k0_pay26 (batch b (projT X WQ WK WV WO)))
    {k : PUnit → Prog (TpuEff nD τ sig (Elt F) Λ₀ .tc) α}
    (H : iprop(sdSt X WQ WK WV WO c b True ∗ R) ⊢ WP c (k ⟨⟩) Q) :
    iprop(sdSt X WQ WK WV WO c b False ∗ R)
      ⊢ WP c (.op (.load sbufM (halfR b inb).toLoadRect hl) fun _ => .op (.store sbufM (halfR b inb) w Finset.univ hx hm) k) Q :=
  load_any c (m := sbufM) (I := halfSet b) (P := fun i => False ∧ (i 0).val / 16 = b.val) (T := sendT X WQ WK WV WO) (r := halfR b inb) (half_sub b inb) fun _ =>
    store_filled c (m := sbufM) (I := halfSet b) (P := fun i => False ∧ (i 0).val / 16 = b.val)
      (P' := fun i => True ∧ (i 0).val / 16 = b.val) (T := sendT X WQ WK WV WO) (r := halfR b inb) (half_sub b inb)
      (hw.trans (funext fun x => by
        refine Eq.trans ?_ (congrArg (sendT X WQ WK WV WO) (half_emb b inb x)).symm
        refine Eq.trans ?_ (send_at X WQ WK WV WO b (x 0) (x 1) (x 2)).symm
        exact congrArg (k0_pay26 (batch b (projT X WQ WK WV WO))) (eq_ix3 x)))
      (fun i hi hn => absurd (Finset.mem_map.mpr ⟨ix3 (inHalf (i 0)) (i 1) (i 2), Finset.mem_univ _, (half_emb b inb _).trans (by
        have h2 : (i 0).val / 16 = b.val := hi.2
        funext a
        match a with
        | ⟨0, _⟩ => exact Fin.ext (by show 16 * b.val + (i 0).val % 16 = (i 0).val; omega)
        | ⟨1, _⟩ => rfl
        | ⟨2, _⟩ => rfl)⟩) hn) H

end

end Cert.KernelIdealProof
end
-- ==== Proof.Attend.lean ====
/-
# The body's first parts: the signals and the attention

The program is printed in parts. Each theorem here runs one of them: from what the part needs, and whatever else is held,
to what it leaves and the values it returns. Parts 1 and 2 make the 32 barrier signals; parts 2 to 6 compute batch 0's
attention and project it, parts 11 to 13 batch 1's.
-/
module

public import proofs.«01_k».proof.Proof.Fill

@[expose] public section

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev wkM : Memref sig .tc .vmem S512x512 .bf16 := Memref.whole cc0_stg3_0
abbrev wvM : Memref sig .tc .vmem S512x512 .bf16 := Memref.whole cc0_stg4_0

/-- A part of the body at the buffers and semaphores the kernel is called with. -/
abbrev atArgs {β : Type _}
    (f : (arg0 : Memref sig .tc .vmem S2x128x512 .bf16) → arg0.IsWhole → (arg1 : Memref sig .tc .vmem S512x512 .bf16) → arg1.IsWhole →
      (arg2 : Memref sig .tc .vmem S512x512 .bf16) → arg2.IsWhole → (arg3 : Memref sig .tc .vmem S512x512 .bf16) → arg3.IsWhole →
      (arg4 : Memref sig .tc .vmem S512x512 .bf16) → arg4.IsWhole → (arg5 : Memref sig .tc .vmem S2x128x512 .bf16) → arg5.IsWhole →
      (arg6 : Memref sig .tc .vmem S2x128x512 .bf16) → arg6.IsWhole → (arg7 : Memref sig .tc .vmem S2x128x512 .f32) → arg7.IsWhole →
      (arg8 : Memref sig .tc .vmem S8x128x128 .f32) → arg8.IsWhole → (arg9 : Memref sig .tc .vmem S32x8x512 .bf16) → arg9.IsWhole →
      (arg10 : Memref sig .tc .vmem S32x8x512 .bf16) → arg10.IsWhole → (arg11 : Memref sig .tc .vmem S8x512 .bf16) → arg11.IsWhole →
      DmaSems sig S_ → DmaSems sig S_ → DmaSems sig S_ → DmaSems sig S_ → β) : β :=
  f xM (Memref.isWhole_whole _) wqM (Memref.isWhole_whole _) woM (Memref.isWhole_whole _) wkM (Memref.isWhole_whole _)
    wvM (Memref.isWhole_whole _) outM (Memref.isWhole_whole _) atM (Memref.isWhole_whole _) pjM (Memref.isWhole_whole _)
    scM (Memref.isWhole_whole _) sbufM (Memref.isWhole_whole _) rsM (Memref.isWhole_whole _) agM (Memref.isWhole_whole _)
    cc0_scratch6 cc0_scratch7 cc0_scratch8 cc0_scratch9

/-! ## The staged inputs -/

/-- A staged input holds `T`. -/
abbrev inSt {s : Shape} {e : EltTy} (m : Memref sig .tc .vmem s e) (c : Dev nD) (T : m.view.ty.Contents (Elt F)) : sProp 𝕄 :=
  filled m c Finset.univ (fun _ => True) T

theorem in_load {s : Shape} {e : EltTy} {m : Memref sig .tc .vmem s e} {α : Type} {Q : α → sProp 𝕄} {R : sProp 𝕄} (c : Dev nD)
    {T : m.view.ty.Contents (Elt F)} {r : Rect s} {T' : r.shape.Idx → Elt F e} (hr : (m.access r).read (Elt F) T = T')
    {hl : m.view.LoadsAt r.toLoadRect} {k : (r.shape.Idx → Elt F e) → Prog (TpuEff nD τ sig (Elt F) Λ₀ .tc) α}
    (h : iprop(inSt m c T ∗ R) ⊢ WP c (k T') Q) :
    iprop(inSt m c T ∗ R) ⊢ WP c (.op (.load m r.toLoadRect hl) k) Q := by
  subst hr
  exact load_filled c (m := m) (I := Finset.univ) (P := fun _ => True) (T := T) (r := r) (Finset.subset_univ _) (fun _ _ => trivial) h

theorem swap3 {A B C R X : sProp 𝕄} (h : iprop(C ∗ A ∗ B ∗ R) ⊢ X) : iprop(A ∗ B ∗ C ∗ R) ⊢ X := by
  iintro ⟨HA, HB, HC, HR⟩
  iapply h
  isplitl [HC]; · iexact HC
  isplitl [HA]; · iexact HA
  isplitl [HB]; · iexact HB
  iexact HR

section
variable (SB : Dev nD → Pieces F) (K : Dev nD × Fin 5 → ℕ)
variable (X : Vec F S2x128x512 .bf16) (WQ WK WV WO : Vec F S512x512 .bf16) (c : Dev nD)

set_option maxHeartbeats 1000000 in
/-- Part 1: the signals to devices 0 to 16. -/
theorem part1_run {Q : (Σ' (d0 : Dev nD) (v2 : BitVec 32), Sems sig S_) → sProp 𝕄} {R : sProp 𝕄}
    (h : iprop(records SB K ∗ sigSt c 17 ∗ R) ⊢ Q ⟨c, Scalar.remsi (Scalar.divsi (Dev.word c) 1#32) 32#32, SemArray.scalar (sig.barrier 0 rfl)⟩) :
    iprop(records SB K ∗ sigSt c 0 ∗ R) ⊢ WP c (atArgs (k0_part1 (F := F))) Q := by
  rw [k0_part1_eq_skeleton]
  unfold atArgs k0_part1_skel
  simp only [semSignalWord, Prog.lift, Prog.bind_op, Prog.bind_ret, Prog.pure_eq_ret, wp_deviceId]
  refine sig_step SB K c 0 rfl ?_
  refine sig_step SB K c 1 rfl ?_
  refine sig_step SB K c 2 rfl ?_
  refine sig_step SB K c 3 rfl ?_
  refine sig_step SB K c 4 rfl ?_
  refine sig_step SB K c 5 rfl ?_
  refine sig_step SB K c 6 rfl ?_
  refine sig_step SB K c 7 rfl ?_
  refine sig_step SB K c 8 rfl ?_
  refine sig_step SB K c 9 rfl ?_
  refine sig_step SB K c 10 rfl ?_
  refine sig_step SB K c 11 rfl ?_
  refine sig_step SB K c 12 rfl ?_
  refine sig_step SB K c 13 rfl ?_
  refine sig_step SB K c 14 rfl ?_
  refine sig_step SB K c 15 rfl ?_
  refine sig_step SB K c 16 rfl ?_
  exact ret_step c h

set_option maxHeartbeats 1000000 in
/-- Part 2: the signals to devices 17 to 31, and the queries. -/
theorem part2_run {Q : (Σ' (v6 : FVec F S256x512 .bf16), FVec F S256x512 .bf16) → sProp 𝕄} {R : sProp 𝕄}
    (h : iprop(inSt wqM c WQ ∗ inSt xM c X ∗ records SB K ∗ sigSt c 32 ∗ R) ⊢ Q ⟨k0_pay1 X, qT X WQ⟩) :
    iprop(records SB K ∗ sigSt c 17 ∗ inSt xM c X ∗ inSt wqM c WQ ∗ R)
      ⊢ WP c (atArgs (k0_part2 (F := F)) (SemArray.scalar (sig.barrier 0 rfl))) Q := by
  rw [k0_part2_eq_skeleton]
  unfold atArgs k0_part2_skel
  simp only [semSignalWord, Prog.lift, Prog.bind_op, Prog.bind_ret, Prog.pure_eq_ret]
  refine sig_step SB K c 17 rfl ?_
  refine sig_step SB K c 18 rfl ?_
  refine sig_step SB K c 19 rfl ?_
  refine sig_step SB K c 20 rfl ?_
  refine sig_step SB K c 21 rfl ?_
  refine sig_step SB K c 22 rfl ?_
  refine sig_step SB K c 23 rfl ?_
  refine sig_step SB K c 24 rfl ?_
  refine sig_step SB K c 25 rfl ?_
  refine sig_step SB K c 26 rfl ?_
  refine sig_step SB K c 27 rfl ?_
  refine sig_step SB K c 28 rfl ?_
  refine sig_step SB K c 29 rfl ?_
  refine sig_step SB K c 30 rfl ?_
  refine sig_step SB K c 31 rfl ?_
  refine swap3 ?_
  refine in_load c (Memref.read_access_unit_zero (Elt F) cc0_stg0_0 (by decide) _ _) ?_
  refine BI.Entails.trans (?_ : _ ⊢ iprop(inSt wqM c WQ ∗ inSt xM c X ∗ records SB K ∗ sigSt c 32 ∗ R)) (in_load (R := iprop(inSt xM c X ∗ records SB K ∗ sigSt c 32 ∗ R)) c
    (Memref.read_access_unit_zero (Elt F) cc0_stg1_0 (by decide) _ WQ) (ret_step c h))
  iintro ⟨HX, Hr, Hs, HW, HR⟩
  isplitl [HW]; · iexact HW
  isplitl [HX]; · iexact HX
  isplitl [Hr]; · iexact Hr
  isplitl [Hs]; · iexact Hs
  iexact HR

/-- Part 3: keys, values, the output weights, and the scores of heads 0 to 2. -/
theorem part3_run {Q : (Σ' (v16 : FVec F S256x512 .bf16) (v20 : FVec F S256x512 .bf16) (v22 : FVec F S512x512 .bf16), FVec F S1x128x128 .f32) → sProp 𝕄}
    {R : sProp 𝕄}
    (h : iprop(scSt X WQ WK c 0 3 ∗ inSt woM c WO ∗ inSt wvM c WV ∗ inSt wkM c WK ∗ R)
      ⊢ Q ⟨kT X WK, vT X WV, woT WO, k0_pay9 (k0_pay1 X) (qT X WQ) WK⟩) :
    iprop(inSt wkM c WK ∗ inSt wvM c WV ∗ inSt woM c WO ∗ scSt X WQ WK c 0 0 ∗ R)
      ⊢ WP c (atArgs (k0_part3 (F := F)) (k0_pay1 X) (qT X WQ)) Q := by
  rw [k0_part3_eq_skeleton]
  unfold atArgs k0_part3_skel
  simp only [Prog.lift, Prog.bind_op, Prog.bind_ret, Prog.pure_eq_ret]
  refine in_load c (Memref.read_access_unit_zero (Elt F) cc0_stg3_0 (by decide) _ _) ?_
  refine swap ?_
  refine in_load c (Memref.read_access_unit_zero (Elt F) cc0_stg4_0 (by decide) _ _) ?_
  refine swap3 ?_
  refine in_load c (Memref.read_access_unit_zero (Elt F) cc0_stg2_0 (by decide) _ _) ?_
  refine BI.Entails.trans (?_ : _ ⊢ iprop(scSt X WQ WK c 0 0 ∗ inSt woM c WO ∗ inSt wvM c WV ∗ inSt wkM c WK ∗ R)) ?_
  · iintro ⟨HO, HV, HK, HS, HR⟩
    isplitl [HS]; · iexact HS
    isplitl [HO]; · iexact HO
    isplitl [HV]; · iexact HV
    isplitl [HK]; · iexact HK
    iexact HR
  refine slab_step X WQ WK c 0 0 rfl ?_
  refine slab_step X WQ WK c 0 1 rfl ?_
  refine slab_step X WQ WK c 0 2 rfl ?_
  refine slab_load X WQ WK c 0 3 3 fun _ => ?_
  exact ret_step c h

/-- Part 4: the scores of heads 3 to 7, and their softmax. -/
theorem part4_run {Q : FVec F S8x128x128 .f32 → sProp 𝕄} {R : sProp 𝕄}
    (h : iprop(scSt X WQ WK c 0 8 ∗ R) ⊢ Q (k0_pay14 (scoreT X WQ WK 0))) :
    iprop(scSt X WQ WK c 0 3 ∗ R)
      ⊢ WP c (atArgs (k0_part4 (F := F)) (qT X WQ) (kT X WK) (k0_pay9 (k0_pay1 X) (qT X WQ) WK)) Q := by
  rw [k0_part4_eq_skeleton]
  unfold atArgs k0_part4_skel
  simp only [Prog.lift, Prog.bind_op, Prog.bind_ret, Prog.pure_eq_ret]
  refine slab_store X WQ WK c 0 3 rfl ?_
  refine slab_step X WQ WK c 0 4 rfl ?_
  refine slab_step X WQ WK c 0 5 rfl ?_
  refine slab_step X WQ WK c 0 6 rfl ?_
  refine slab_step X WQ WK c 0 7 rfl ?_
  refine scores_load X WQ WK c 0 ?_
  exact ret_step c h

/-- Part 5: batch 0's attention, heads 0 to 3. -/
theorem part5_run {Q : (Σ' (v81 : FVec F S8x128x128 .bf16), FVec F S128x64 .bf16) → sProp 𝕄} {R : sProp 𝕄}
    (h : iprop(atSt X WQ WK WV c 0 4 ∗ R) ⊢ Q ⟨probT X WQ WK 0, k0_pay20 (vT X WV) (k0_pay14 (scoreT X WQ WK 0))⟩) :
    iprop(atSt X WQ WK WV c 0 0 ∗ R) ⊢ WP c (atArgs (k0_part5 (F := F)) (vT X WV) (k0_pay14 (scoreT X WQ WK 0))) Q := by
  rw [k0_part5_eq_skeleton]
  unfold atArgs k0_part5_skel
  simp only [Prog.lift, Prog.bind_op, Prog.bind_ret, Prog.pure_eq_ret]
  refine cols_step X WQ WK WV c 0 0 rfl ?_
  refine cols_step X WQ WK WV c 0 1 rfl ?_
  refine cols_step X WQ WK WV c 0 2 rfl ?_
  refine cols_step X WQ WK WV c 0 3 rfl ?_
  exact ret_step c h

/-- Part 6: batch 0's attention, heads 4 to 7, and its projection. -/
theorem part6_run {Q : PUnit → sProp 𝕄} {R : sProp 𝕄}
    (h : iprop(pjSt X WQ WK WV WO c 0 True ∗ atSt X WQ WK WV c 0 8 ∗ R) ⊢ Q ⟨⟩) :
    iprop(atSt X WQ WK WV c 0 4 ∗ pjSt X WQ WK WV WO c 0 False ∗ R)
      ⊢ WP c (atArgs (k0_part6 (F := F)) (vT X WV) (woT WO) (probT X WQ WK 0) (k0_pay20 (vT X WV) (k0_pay14 (scoreT X WQ WK 0)))) Q := by
  rw [k0_part6_eq_skeleton]
  unfold atArgs k0_part6_skel
  simp only [Prog.lift, Prog.bind_op, Prog.bind_ret, Prog.pure_eq_ret]
  refine cols_step X WQ WK WV c 0 4 rfl ?_
  refine cols_step X WQ WK WV c 0 5 rfl ?_
  refine cols_step X WQ WK WV c 0 6 rfl ?_
  refine cols_step X WQ WK WV c 0 7 rfl ?_
  refine attn_load X WQ WK WV c 0 ?_
  refine swap ?_
  refine proj_step X WQ WK WV WO c 0 rfl ?_
  exact ret_step c h

/-- Part 11: batch 1's scores of heads 4 to 7, and their softmax. -/
theorem part11_run {Q : (Σ' (v281 : FVec F S8x128x128 .bf16) (v283 : FVec F S128x128 .bf16) (v284 : FVec F S128x64 .bf16), FVec F S128x64 .f32) → sProp 𝕄}
    {R : sProp 𝕄}
    (h : iprop(scSt X WQ WK c 1 8 ∗ R)
      ⊢ Q ⟨probT X WQ WK 1, k0_pay37 (scoreT X WQ WK 1), k0_pay38 (vT X WV), constant S128x64 .f32 0x00000000#32⟩) :
    iprop(scSt X WQ WK c 1 4 ∗ R)
      ⊢ WP c (atArgs (k0_part11 (F := F)) (qT X WQ) (kT X WK) (vT X WV) (k0_pay31 (qT X WQ) (kT X WK))) Q := by
  rw [k0_part11_eq_skeleton]
  unfold atArgs k0_part11_skel
  simp only [Prog.lift, Prog.bind_op, Prog.bind_ret, Prog.pure_eq_ret]
  refine slab_step X WQ WK c 1 4 rfl ?_
  refine slab_step X WQ WK c 1 5 rfl ?_
  refine slab_step X WQ WK c 1 6 rfl ?_
  refine slab_step X WQ WK c 1 7 rfl ?_
  refine scores_load X WQ WK c 1 ?_
  exact ret_step c h

/-- Part 12: batch 1's attention, heads 0 to 3. -/
theorem part12_run {Q : FVec F S1x128x64 .bf16 → sProp 𝕄} {R : sProp 𝕄}
    (h : iprop(atSt X WQ WK WV c 1 4 ∗ R) ⊢ Q (k0_pay43 (vT X WV) (probT X WQ WK 1))) :
    iprop(atSt X WQ WK WV c 1 0 ∗ R)
      ⊢ WP c (atArgs (k0_part12 (F := F)) (vT X WV) (probT X WQ WK 1) (k0_pay37 (scoreT X WQ WK 1)) (k0_pay38 (vT X WV))
          (constant S128x64 .f32 0x00000000#32)) Q := by
  rw [k0_part12_eq_skeleton]
  unfold atArgs k0_part12_skel
  simp only [Prog.lift, Prog.bind_op, Prog.bind_ret, Prog.pure_eq_ret]
  refine cols_step X WQ WK WV c 1 0 rfl ?_
  refine cols_step X WQ WK WV c 1 1 rfl ?_
  refine cols_step X WQ WK WV c 1 2 rfl ?_
  refine cols_step X WQ WK WV c 1 3 rfl ?_
  refine cols_load X WQ WK WV c 1 4 4 fun _ => ?_
  exact ret_step c h

/-- Part 13: batch 1's attention, heads 4 to 7, and its projection. -/
theorem part13_run {Q : FVec F S128x512 .bf16 → sProp 𝕄} {R : sProp 𝕄}
    (h : iprop(pjSt X WQ WK WV WO c 1 True ∗ atSt X WQ WK WV c 1 8 ∗ R) ⊢ Q (k0_pay48 (batch 1 (projT X WQ WK WV WO)))) :
    iprop(atSt X WQ WK WV c 1 4 ∗ pjSt X WQ WK WV WO c 1 False ∗ R)
      ⊢ WP c (atArgs (k0_part13 (F := F)) (vT X WV) (woT WO) (probT X WQ WK 1) (k0_pay43 (vT X WV) (probT X WQ WK 1))) Q := by
  rw [k0_part13_eq_skeleton]
  unfold atArgs k0_part13_skel
  simp only [Prog.lift, Prog.bind_op, Prog.bind_ret, Prog.pure_eq_ret]
  refine cols_store X WQ WK WV c 1 4 rfl ?_
  refine cols_step X WQ WK WV c 1 5 rfl ?_
  refine cols_step X WQ WK WV c 1 6 rfl ?_
  refine cols_step X WQ WK WV c 1 7 rfl ?_
  refine attn_load X WQ WK WV c 1 ?_
  refine swap ?_
  refine proj_step X WQ WK WV WO c 1 rfl ?_
  refine proj_load X WQ WK WV WO c 1 ?_
  exact ret_step c h

end

end Cert.KernelIdealProof
end
-- ==== Proof.Scatter.lean ====
/-
# The body's middle parts: the barrier and the scatter

After the barrier a device holds its slot of every other device's receive buffer. Parts 7 to 10 store the first half of the
pieces and send them, parts 14 to 17 the second half; parts 17 to 22 wait for the 32 pieces sent to this device and load the
receive buffer, now whole.
-/
module

public import proofs.«01_k».proof.Proof.Attend

@[expose] public section

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## The program's slots -/

/-- The receive slot the copies of device `c` name is slot `c`. -/
theorem rs_slot (c : Dev nD) :
    (rsM.slice (Rect.unit (s := S32x8x512) (k0_off1 c) S1x8x512.size (k0_off1_inb c)) (fun _ => rfl)).squeeze S8x512 squeezes_S1x8x512_S8x512
      = slotM rsM c := by
  have h : ∀ (off : Fin 3 → Nat) (e : off = ![c.val, 0, 0]) (inb : ∀ a, off a + S1x8x512.size a ≤ S32x8x512.size a),
      (rsM.slice (Rect.unit (s := S32x8x512) off S1x8x512.size inb) (fun _ => rfl)).squeeze S8x512 squeezes_S1x8x512_S8x512
        = slotM rsM c := by
    intro off e inb; subst e; rfl
  exact h _ (off1_eq c) _

/-- The result block the copies of device `c` name is block `c`. -/
theorem out_blk (c : Dev nD) :
    (outM.slice (Rect.unit (s := S2x128x512) (k0_off2 c) S1x8x512.size (k0_off2_inb c)) (fun _ => rfl)).squeeze S8x512 squeezes_S1x8x512_S8x512
      = blkM outM c := by
  have h : ∀ (off : Fin 3 → Nat) (e : off = ![c.val / 16, 8 * (c.val % 16), 0]) (inb : ∀ a, off a + S1x8x512.size a ≤ S2x128x512.size a),
      (outM.slice (Rect.unit (s := S2x128x512) off S1x8x512.size inb) (fun _ => rfl)).squeeze S8x512 squeezes_S1x8x512_S8x512
        = blkM outM c := by
    intro off e inb; subst e; rfl
  exact h _ (off2_eq c) _

/-! ## Halves of the send buffer -/

section
variable (X : Vec F S2x128x512 .bf16) (WQ WK WV WO : Vec F S512x512 .bf16) (c : Dev nD)

theorem mem_halfSet (b : Fin 2) (i : S32x8x512.Idx) :
    i ∈ halfSet b ↔ ∃ j ∈ rng (16 * b.val) (16 * b.val + 16), i ∈ slotSet j := by
  refine ⟨fun h => ⟨i 0, Finset.mem_filter.mpr ⟨Finset.mem_univ _, ?_⟩, (mem_slotSet i _).mpr rfl⟩, fun ⟨j, hj, hi⟩ => ?_⟩
  · have := (Finset.mem_filter.mp h).2; omega
  · have hj' := (Finset.mem_filter.mp hj).2
    have e : (i 0).val = j.val := congrArg Fin.val ((mem_slotSet i j).mp hi)
    exact Finset.mem_filter.mpr ⟨Finset.mem_univ _, by omega⟩

theorem halfSet_pts (b : Fin 2) (f : Pieces F) :
    (((c : Thread nD τ).loc cc0_scratch3 ↦[halfSet b]{fullShare} f) : sProp 𝕄)
      = bigSep (rng (16 * b.val) (16 * b.val + 16)) fun j => sbPts c j f := by
  refine Eq.trans ?_ (pointsTo_biUnion (ℓ := (c : Thread nD τ).loc cc0_scratch3) (q := fullShare) (f := f)
    (rng (16 * b.val) (16 * b.val + 16)) slotSet fun t _ t' _ h => slotSet_disjoint t t' h)
  refine congrArg (fun I => (((c : Thread nD τ).loc cc0_scratch3 ↦[I]{fullShare} f) : sProp 𝕄)) (Finset.ext fun i => ?_)
  exact (mem_halfSet b i).trans Finset.mem_biUnion.symm

/-- A filled half is its 16 slots at the pieces to send. -/
theorem sdSt_split (b : Fin 2) :
    sdSt X WQ WK WV WO c b True ⊢ bigSep (rng (16 * b.val) (16 * b.val + 16)) fun j => sbPts c j (sendT X WQ WK WV WO) := by
  unfold sdSt filled
  rw [← halfSet_pts]
  iintro ⟨%f, %hf, Hx⟩
  have e : (((c : Thread nD τ).loc cc0_scratch3 ↦[halfSet b]{fullShare} f) : sProp 𝕄)
      = ((c : Thread nD τ).loc cc0_scratch3 ↦[halfSet b]{fullShare} (sendT X WQ WK WV WO)) :=
    pointsTo_congr fun i hi => hf i ⟨trivial, (Finset.mem_filter.mp hi).2⟩
  rw [← e]
  iexact Hx

/-- The send buffer is its two halves, neither filled. -/
theorem sdSt_start (f : Pieces F) :
    (((c : Thread nD τ).loc cc0_scratch3 ↦{fullShare} f) : sProp 𝕄)
      ⊢ iprop(sdSt X WQ WK WV WO c 0 False ∗ sdSt X WQ WK WV WO c 1 False) := by
  have hu : (Finset.univ : Finset S32x8x512.Idx) = halfSet 0 ∪ halfSet 1 := by
    refine (Finset.eq_univ_of_forall fun i => ?_).symm
    have h0 : (i 0).val < 32 := (i 0).isLt
    rcases Nat.lt_or_ge (i 0).val 16 with h | h
    · exact Finset.mem_union_left _ (Finset.mem_filter.mpr ⟨Finset.mem_univ _, by show (i 0).val / 16 = 0; omega⟩)
    · exact Finset.mem_union_right _ (Finset.mem_filter.mpr ⟨Finset.mem_univ _, by show (i 0).val / 16 = 1; omega⟩)
  have hd : Disjoint (halfSet 0) (halfSet 1) := Finset.disjoint_left.mpr fun i h h' => by
    have e : (i 0).val / 16 = 0 := (Finset.mem_filter.mp h).2
    have e' : (i 0).val / 16 = 1 := (Finset.mem_filter.mp h').2
    omega
  have hs : (((c : Thread nD τ).loc cc0_scratch3 ↦{fullShare} f) : sProp 𝕄)
      ⊢ iprop(((c : Thread nD τ).loc cc0_scratch3 ↦[halfSet 0]{fullShare} f) ∗ ((c : Thread nD τ).loc cc0_scratch3 ↦[halfSet 1]{fullShare} f)) :=
    (Entails.of_eq (congrArg (fun I => (((c : Thread nD τ).loc cc0_scratch3 ↦[I]{fullShare} f) : sProp 𝕄)) hu)).trans (pointsTo_union hd).1
  refine BI.Entails.trans hs ?_
  show (_ : sProp 𝕄) ⊢ (_ : sProp 𝕄)
  unfold sdSt filled
  iintro ⟨H0, H1⟩
  isplitl [H0]
  · iexists f; isplitr
    · ipureintro; exact fun i h => h.1.elim
    · iexact H0
  · iexists f; isplitr
    · ipureintro; exact fun i h => h.1.elim
    · iexact H1

end

/-! ## The scatter's states -/

section
variable (SB : Dev nD → Pieces F) (K : Dev nD × Fin 5 → ℕ) (c : Dev nD)

/-- The tokens of the 32 copies: both ends' duties. -/
def sendToks : sProp 𝕄 :=
  bigSep Finset.univ fun j : Fin 32 => iprop(dutyTok ER (cellAt c 1) 0 j ∗ dutyTok ER (cellAt j 2) 0 c)
/-- Block `c` of every device's result. -/
def blocks : sProp 𝕄 := bigSep Finset.univ fun j : Fin 32 => iprop(∃ f, outPts (F := F) j c f)

/-- After the barrier, with the first half of the pieces, the copies may start. -/
theorem sendSt_start :
    iprop(barDone c ∗ sendToks c ∗ bigSep (rng 0 16) fun j => sbPts c j (SB c))
      ⊢ iprop(sendSt SB c 0 16 ∗ atPos ER (cellAt c 0) 1 ∅ 0 ∗ blocks (F := F) c) := by
  unfold barDone sendToks sendSt blocks
  rw [ge_zero, lt_zero, bigSep_empty]
  simp only [bigSep_sep']
  iintro ⟨⟨HO, Hat, Hrs, Hout⟩, ⟨Ht1, Ht2⟩, Hsb⟩
  isplitr [Hat Hout]
  · isplitl [HO]; · iexact HO
    isplitl [Ht1 Ht2 Hrs]
    · isplitl [Ht1]; · iexact Ht1
      isplitl [Ht2]; · iexact Ht2
      iexact Hrs
    isplitl [Hsb]; · iexact Hsb
    iempintro
  · isplitl [Hat]; · iexact Hat
    iexact Hout

/-- The second half of the pieces joins once the first is sent. -/
theorem sendSt_more :
    iprop(sendSt SB c 16 16 ∗ bigSep (rng 16 32) fun j => sbPts c j (SB c)) ⊢ sendSt SB c 16 32 := by
  unfold sendSt
  iintro ⟨⟨HO, Hg, -, Hcr⟩, Hsb⟩
  isplitl [HO]; · iexact HO
  isplitl [Hg]; · iexact Hg
  isplitl [Hsb]; · iexact Hsb
  iexact Hcr

/-- One copy of the scatter. -/
theorem rs_send (m : ℕ) {n : ℕ} (hn : n < 32) (hm : n < m) {sM dM : Memref sig .tc .vmem S8x512 .bf16}
    (hs : sM = slotM sbufM ⟨n, hn⟩) (hd : dM = slotM rsM c)
    {hsc : (dM : Memref sig ((⟨n, hn⟩ : Dev nD) : Thread nD τ).2.kind .vmem S8x512 .bf16).view.ref.isScScratch = false}
    {hsrc : sM.view.WordExact} {hdst : dM.view.WordExact}
    {hsem : DmaTarget.Typed .vmem (.dma cc0_scratch7.sem) (.remote ((⟨n, hn⟩ : Dev nD) : Thread nD τ) (dM : Memref sig .tc .vmem S8x512 .bf16) (.dma cc0_scratch6.sem) hsc)}
    {α : Type} {Q : α → sProp 𝕄} {k : PUnit → Prog (TpuEff nD τ sig (Elt F) Λ₀ .tc) α} {R : sProp 𝕄}
    (h : iprop(records SB K ∗ sendSt SB c (n + 1) m ∗ R) ⊢ WP c (k ⟨⟩) Q) :
    iprop(records SB K ∗ sendSt SB c n m ∗ R)
      ⊢ WP c (.op (.enqueueDma sM (.remote ((⟨n, hn⟩ : Dev nD) : Thread nD τ) dM (.dma cc0_scratch6.sem) hsc) (.dma cc0_scratch7.sem) hsrc hdst hsem) k) Q :=
  send_step SB K c ⟨n, hn⟩ m hm hs hd h

/-- All copies made, what is left are the credits of their sends. -/
theorem sendSt_end :
    sendSt SB c 32 32 ⊢ iprop(owing c (dueTo 4 0) ∗ bigSep Finset.univ fun _ : Fin 32 => cred (tallyAt (cellAt c 1) () N)) := by
  unfold sendSt
  rw [dueTo_last, zero_add, lt_last]
  iintro ⟨HO, -, -, Hcr⟩
  isplitl [HO]; · iexact HO
  iexact Hcr

/-! ## Waiting for the pieces -/

/-- One wait on the receive semaphore. -/
theorem rs_wait {n : ℕ} (hn : n + 1 < 32) {sM dM : Memref sig .tc .vmem S8x512 .bf16} {hsM : sM.view.WordExact} {hdM : dM.view.WordExact}
    (hd : dM = slotM rsM c) {α : Type} {Q : α → sProp 𝕄} {k : PUnit → Prog (TpuEff nD τ sig (Elt F) Λ₀ .tc) α} {R : sProp 𝕄}
    (h : iprop(records SB K ∗ owing c (dueTo 4 0) ∗ waitSt SB c 2 (n + 1) ∗ R) ⊢ WP c (k ⟨⟩) Q) :
    iprop(records SB K ∗ owing c (dueTo 4 0) ∗ waitSt SB c 2 n ∗ R)
      ⊢ WP c (.op (.waitDma2 cc0_scratch7.sem sM dM hsM hdM) k) Q :=
  wait_step SB K c 2 (amt_xfer (by decide)) ⟨n, by omega⟩ hn (dueTo 4 0) (mayWait_rs c) (hd ▸ credit_slot_rs c)
    (wpE_waitDma2_eq 𝒱₀ (c : Thread nD τ) none Set.univ) h

theorem rs_wait_last {sM dM : Memref sig .tc .vmem S8x512 .bf16} {hsM : sM.view.WordExact} {hdM : dM.view.WordExact}
    (hd : dM = slotM rsM c) {α : Type} {Q : α → sProp 𝕄} {k : PUnit → Prog (TpuEff nD τ sig (Elt F) Λ₀ .tc) α} {R : sProp 𝕄}
    (h : iprop(records SB K ∗ owing c (dueTo 4 0) ∗ waitDone SB c 2 ∗ R) ⊢ WP c (k ⟨⟩) Q) :
    iprop(records SB K ∗ owing c (dueTo 4 0) ∗ waitSt SB c 2 31 ∗ R)
      ⊢ WP c (.op (.waitDma2 cc0_scratch7.sem sM dM hsM hdM) k) Q :=
  wait_last SB K c 2 (amt_xfer (by decide)) (dueTo 4 0) (mayWait_rs c) (hd ▸ credit_slot_rs c)
    (wpE_waitDma2_eq 𝒱₀ (c : Thread nD τ) none Set.univ) h

/-- The receive buffer is its 32 slots. -/
theorem rs_blocks (f : Pieces F) :
    (((c : Thread nD τ).loc cc0_scratch4 ↦{fullShare} f) : sProp 𝕄) = bigSep Finset.univ fun j => rsPts c j f := by
  refine Eq.trans ?_ (pointsTo_biUnion (ℓ := (c : Thread nD τ).loc cc0_scratch4) (q := fullShare) (f := f)
    Finset.univ slotSet fun t _ t' _ h => slotSet_disjoint t t' h)
  refine congrArg (fun I => (((c : Thread nD τ).loc cc0_scratch4 ↦[I]{fullShare} f) : sProp 𝕄)) (Finset.ext fun i => ?_)
  exact ⟨fun _ => Finset.mem_biUnion.mpr ⟨i 0, Finset.mem_univ _, (mem_slotSet i _).mpr rfl⟩, fun _ => Finset.mem_univ _⟩

/-- All pieces in, the receive buffer is whole again. -/
theorem rs_whole : waitDone SB c 2 ⊢ iprop(atPos ER (cellAt c 2) 1 ∅ 0 ∗ inSt rsM c (RS SB c)) := by
  unfold waitDone inSt filled
  have e : (bigSep Finset.univ (pay SB c 2) : sProp 𝕄) = ((c : Thread nD τ).loc cc0_scratch4 ↦{fullShare} (RS SB c)) := (rs_blocks c (RS SB c)).symm
  rw [e]
  iintro ⟨Hat, Hx⟩
  isplitl [Hat]; · iexact Hat
  iexists (RS SB c); isplitr
  · ipureintro; exact fun _ _ => rfl
  · iexact Hx

end

section
variable (SB : Dev nD → Pieces F) (K : Dev nD × Fin 5 → ℕ)
variable (X : Vec F S2x128x512 .bf16) (WQ WK WV WO : Vec F S512x512 .bf16) (c : Dev nD)

set_option maxHeartbeats 1000000 in
/-- Part 7: the barrier wait, the first half of the pieces, and copies 0 to 3. -/
theorem part7_run (hSB : SB c = sendT X WQ WK WV WO) {Q : PUnit → sProp 𝕄} {R : sProp 𝕄}
    (h : iprop(records SB K ∗ sendSt SB c 4 16 ∗ atPos ER (cellAt c 0) 1 ∅ 0 ∗ blocks (F := F) c ∗ pjSt X WQ WK WV WO c 0 True ∗ R) ⊢ Q ⟨⟩) :
    iprop(records SB K ∗ barSt c ∗ sendToks c ∗ pjSt X WQ WK WV WO c 0 True ∗ sdSt X WQ WK WV WO c 0 False ∗ R)
      ⊢ WP c (atArgs (k0_part7 (F := F)) c (SemArray.scalar (sig.barrier 0 rfl))) Q := by
  rw [k0_part7_eq_skeleton]
  unfold atArgs k0_part7_skel
  simp only [semWaitWord, Prog.lift, Prog.bind_op, Prog.bind_ret, Prog.pure_eq_ret]
  refine bar_step SB K c rfl ?_
  refine BI.Entails.trans (?_ : _ ⊢ iprop(pjSt X WQ WK WV WO c 0 True ∗ sdSt X WQ WK WV WO c 0 False ∗ records SB K ∗ barDone c ∗ sendToks c ∗ R)) ?_
  · iintro ⟨Hr, Hb, Ht, Hp, Hs, HR⟩
    isplitl [Hp]; · iexact Hp
    isplitl [Hs]; · iexact Hs
    isplitl [Hr]; · iexact Hr
    isplitl [Hb]; · iexact Hb
    isplitl [Ht]; · iexact Ht
    iexact HR
  refine proj_load X WQ WK WV WO c 0 ?_
  refine swap ?_
  refine half_step X WQ WK WV WO c 0 rfl ?_
  refine BI.Entails.trans (?_ : _ ⊢ iprop(records SB K ∗ sendSt SB c 0 16 ∗ atPos ER (cellAt c 0) 1 ∅ 0 ∗ blocks (F := F) c
    ∗ pjSt X WQ WK WV WO c 0 True ∗ R)) ?_
  · iintro ⟨Hs, Hp, Hr, Hb, Ht, HR⟩
    isplitl [Hr]; · iexact Hr
    ihave Hs := (sdSt_split X WQ WK WV WO c 0) $$ Hs
    ihave ⟨Hst, Hat, Hout⟩ := (sendSt_start SB c) $$ [Hs Hb Ht]
    · isplitl [Hb]; · iexact Hb
      isplitl [Ht]; · iexact Ht
      rw [hSB]; iexact Hs
    isplitl [Hst]; · iexact Hst
    isplitl [Hat]; · iexact Hat
    isplitl [Hout]; · iexact Hout
    isplitl [Hp]; · iexact Hp
    iexact HR
  iterate 4 refine rs_send SB K c 16 (by decide) (by decide) rfl (rs_slot c) ?_
  exact ret_step c h

set_option maxHeartbeats 1000000 in
/-- Part 8: copies 4 to 8. -/
theorem part8_run {Q : PUnit → sProp 𝕄} {R : sProp 𝕄}
    (h : iprop(records SB K ∗ sendSt SB c 9 16 ∗ R) ⊢ Q ⟨⟩) :
    iprop(records SB K ∗ sendSt SB c 4 16 ∗ R) ⊢ WP c (atArgs (k0_part8 (F := F)) c) Q := by
  rw [k0_part8_eq_skeleton]
  unfold atArgs k0_part8_skel
  simp only [Prog.lift, Prog.bind_op, Prog.bind_ret, Prog.pure_eq_ret]
  iterate 5 refine rs_send SB K c 16 (by decide) (by decide) rfl (rs_slot c) ?_
  exact ret_step c h

set_option maxHeartbeats 1000000 in
/-- Part 9: copies 9 to 13. -/
theorem part9_run {Q : PUnit → sProp 𝕄} {R : sProp 𝕄}
    (h : iprop(records SB K ∗ sendSt SB c 14 16 ∗ R) ⊢ Q ⟨⟩) :
    iprop(records SB K ∗ sendSt SB c 9 16 ∗ R) ⊢ WP c (atArgs (k0_part9 (F := F)) c) Q := by
  rw [k0_part9_eq_skeleton]
  unfold atArgs k0_part9_skel
  simp only [Prog.lift, Prog.bind_op, Prog.bind_ret, Prog.pure_eq_ret]
  iterate 5 refine rs_send SB K c 16 (by decide) (by decide) rfl (rs_slot c) ?_
  exact ret_step c h

set_option maxHeartbeats 1000000 in
/-- Part 10: copies 14 and 15, and the second batch's first four slabs of scores. -/
theorem part10_run {Q : FVec F S128x128 .f32 → sProp 𝕄} {R : sProp 𝕄}
    (h : iprop(scSt X WQ WK c 1 4 ∗ records SB K ∗ sendSt SB c 16 16 ∗ R) ⊢ Q (k0_pay31 (qT X WQ) (kT X WK))) :
    iprop(records SB K ∗ sendSt SB c 14 16 ∗ scSt X WQ WK c 1 0 ∗ R)
      ⊢ WP c (atArgs (k0_part10 (F := F)) c (qT X WQ) (kT X WK)) Q := by
  rw [k0_part10_eq_skeleton]
  unfold atArgs k0_part10_skel
  simp only [Prog.lift, Prog.bind_op, Prog.bind_ret, Prog.pure_eq_ret]
  iterate 2 refine rs_send SB K c 16 (by decide) (by decide) rfl (rs_slot c) ?_
  refine swap3 ?_
  refine slab_step X WQ WK c 1 0 rfl ?_
  refine slab_step X WQ WK c 1 1 rfl ?_
  refine slab_step X WQ WK c 1 2 rfl ?_
  refine slab_step X WQ WK c 1 3 rfl ?_
  exact ret_step c h

set_option maxHeartbeats 1000000 in
/-- Part 14: the second half of the pieces, and copies 16 to 19. -/
theorem part14_run (hSB : SB c = sendT X WQ WK WV WO) {Q : PUnit → sProp 𝕄} {R : sProp 𝕄}
    (h : iprop(records SB K ∗ sendSt SB c 20 32 ∗ R) ⊢ Q ⟨⟩) :
    iprop(records SB K ∗ sendSt SB c 16 16 ∗ sdSt X WQ WK WV WO c 1 False ∗ R)
      ⊢ WP c (atArgs (k0_part14 (F := F)) c (k0_pay48 (batch 1 (projT X WQ WK WV WO)))) Q := by
  rw [k0_part14_eq_skeleton]
  unfold atArgs k0_part14_skel
  simp only [Prog.lift, Prog.bind_op, Prog.bind_ret, Prog.pure_eq_ret]
  refine swap3 ?_
  refine half_step X WQ WK WV WO c 1 rfl ?_
  refine BI.Entails.trans (?_ : _ ⊢ iprop(records SB K ∗ sendSt SB c 16 32 ∗ R)) ?_
  · iintro ⟨Hs, Hr, Hb, HR⟩
    isplitl [Hr]; · iexact Hr
    ihave Hs := (sdSt_split X WQ WK WV WO c 1) $$ Hs
    isplitl [Hs Hb]
    · iapply (sendSt_more SB c)
      isplitl [Hb]; · iexact Hb
      rw [hSB]; iexact Hs
    iexact HR
  iterate 4 refine rs_send SB K c 32 (by decide) (by decide) rfl (rs_slot c) ?_
  exact ret_step c h

set_option maxHeartbeats 1000000 in
/-- Part 15: copies 20 to 25. -/
theorem part15_run {Q : PUnit → sProp 𝕄} {R : sProp 𝕄}
    (h : iprop(records SB K ∗ sendSt SB c 26 32 ∗ R) ⊢ Q ⟨⟩) :
    iprop(records SB K ∗ sendSt SB c 20 32 ∗ R) ⊢ WP c (atArgs (k0_part15 (F := F)) c) Q := by
  rw [k0_part15_eq_skeleton]
  unfold atArgs k0_part15_skel
  simp only [Prog.lift, Prog.bind_op, Prog.bind_ret, Prog.pure_eq_ret]
  iterate 6 refine rs_send SB K c 32 (by decide) (by decide) rfl (rs_slot c) ?_
  exact ret_step c h

set_option maxHeartbeats 1000000 in
/-- Part 16: copies 26 to 30. -/
theorem part16_run {Q : PUnit → sProp 𝕄} {R : sProp 𝕄}
    (h : iprop(records SB K ∗ sendSt SB c 31 32 ∗ R) ⊢ Q ⟨⟩) :
    iprop(records SB K ∗ sendSt SB c 26 32 ∗ R) ⊢ WP c (atArgs (k0_part16 (F := F)) c) Q := by
  rw [k0_part16_eq_skeleton]
  unfold atArgs k0_part16_skel
  simp only [Prog.lift, Prog.bind_op, Prog.bind_ret, Prog.pure_eq_ret]
  iterate 5 refine rs_send SB K c 32 (by decide) (by decide) rfl (rs_slot c) ?_
  exact ret_step c h

/-- The credits of the 32 sends, and the state at the start of the waits for pieces. -/
def sendCreds : sProp 𝕄 := bigSep Finset.univ fun _ : Fin 32 => cred (tallyAt (cellAt c 1) () N)

set_option maxHeartbeats 1000000 in
/-- Part 17: copy 31, and five waits for pieces. -/
theorem part17_run {Q : PUnit → sProp 𝕄} {R : sProp 𝕄}
    (h : iprop(records SB K ∗ owing c (dueTo 4 0) ∗ waitSt SB c 2 5 ∗ sendCreds (F := F) c ∗ R) ⊢ Q ⟨⟩) :
    iprop(records SB K ∗ sendSt SB c 31 32 ∗ waitSt SB c 2 0 ∗ R) ⊢ WP c (atArgs (k0_part17 (F := F)) c) Q := by
  rw [k0_part17_eq_skeleton]
  unfold atArgs k0_part17_skel
  simp only [Prog.lift, Prog.bind_op, Prog.bind_ret, Prog.pure_eq_ret]
  refine rs_send SB K c 32 (by decide) (by decide) rfl (rs_slot c) ?_
  refine BI.Entails.trans (?_ : _ ⊢ iprop(records SB K ∗ owing c (dueTo 4 0) ∗ waitSt SB c 2 0 ∗ sendCreds (F := F) c ∗ R)) ?_
  · iintro ⟨Hr, Hs, Hw, HR⟩
    isplitl [Hr]; · iexact Hr
    ihave ⟨HO, Hc⟩ := (sendSt_end SB c) $$ Hs
    isplitl [HO]; · iexact HO
    isplitl [Hw]; · iexact Hw
    isplitl [Hc]; · unfold sendCreds; iexact Hc
    iexact HR
  iterate 5 refine rs_wait SB K c (by decide) (rs_slot c) ?_
  exact ret_step c h

/-- Part 18: 5 waits for pieces. -/
theorem part18_run {Q : PUnit → sProp 𝕄} {R : sProp 𝕄}
    (h : iprop(records SB K ∗ owing c (dueTo 4 0) ∗ waitSt SB c 2 10 ∗ R) ⊢ Q ⟨⟩) :
    iprop(records SB K ∗ owing c (dueTo 4 0) ∗ waitSt SB c 2 5 ∗ R) ⊢ WP c (atArgs (k0_part18 (F := F)) c) Q := by
  rw [k0_part18_eq_skeleton]
  unfold atArgs k0_part18_skel
  simp only [Prog.lift, Prog.bind_op, Prog.bind_ret, Prog.pure_eq_ret]
  iterate 5 refine rs_wait SB K c (by decide) (rs_slot c) ?_
  exact ret_step c h

/-- Part 19: 6 waits for pieces. -/
theorem part19_run {Q : PUnit → sProp 𝕄} {R : sProp 𝕄}
    (h : iprop(records SB K ∗ owing c (dueTo 4 0) ∗ waitSt SB c 2 16 ∗ R) ⊢ Q ⟨⟩) :
    iprop(records SB K ∗ owing c (dueTo 4 0) ∗ waitSt SB c 2 10 ∗ R) ⊢ WP c (atArgs (k0_part19 (F := F)) c) Q := by
  rw [k0_part19_eq_skeleton]
  unfold atArgs k0_part19_skel
  simp only [Prog.lift, Prog.bind_op, Prog.bind_ret, Prog.pure_eq_ret]
  iterate 6 refine rs_wait SB K c (by decide) (rs_slot c) ?_
  exact ret_step c h

/-- Part 20: 5 waits for pieces. -/
theorem part20_run {Q : PUnit → sProp 𝕄} {R : sProp 𝕄}
    (h : iprop(records SB K ∗ owing c (dueTo 4 0) ∗ waitSt SB c 2 21 ∗ R) ⊢ Q ⟨⟩) :
    iprop(records SB K ∗ owing c (dueTo 4 0) ∗ waitSt SB c 2 16 ∗ R) ⊢ WP c (atArgs (k0_part20 (F := F)) c) Q := by
  rw [k0_part20_eq_skeleton]
  unfold atArgs k0_part20_skel
  simp only [Prog.lift, Prog.bind_op, Prog.bind_ret, Prog.pure_eq_ret]
  iterate 5 refine rs_wait SB K c (by decide) (rs_slot c) ?_
  exact ret_step c h

/-- Part 21: 5 waits for pieces. -/
theorem part21_run {Q : PUnit → sProp 𝕄} {R : sProp 𝕄}
    (h : iprop(records SB K ∗ owing c (dueTo 4 0) ∗ waitSt SB c 2 26 ∗ R) ⊢ Q ⟨⟩) :
    iprop(records SB K ∗ owing c (dueTo 4 0) ∗ waitSt SB c 2 21 ∗ R) ⊢ WP c (atArgs (k0_part21 (F := F)) c) Q := by
  rw [k0_part21_eq_skeleton]
  unfold atArgs k0_part21_skel
  simp only [Prog.lift, Prog.bind_op, Prog.bind_ret, Prog.pure_eq_ret]
  iterate 5 refine rs_wait SB K c (by decide) (rs_slot c) ?_
  exact ret_step c h

/-- Part 22: the last six waits for pieces, and the load of the whole receive buffer. -/
theorem part22_run {Q : Vec F S32x8x512 .bf16 → sProp 𝕄} {R : sProp 𝕄}
    (h : iprop(inSt rsM c (RS SB c) ∗ records SB K ∗ owing c (dueTo 4 0) ∗ atPos ER (cellAt c 2) 1 ∅ 0 ∗ R) ⊢ Q (RS SB c)) :
    iprop(records SB K ∗ owing c (dueTo 4 0) ∗ waitSt SB c 2 26 ∗ R) ⊢ WP c (atArgs (k0_part22 (F := F)) c) Q := by
  rw [k0_part22_eq_skeleton]
  unfold atArgs k0_part22_skel
  simp only [Prog.lift, Prog.bind_op, Prog.bind_ret, Prog.pure_eq_ret]
  iterate 5 refine rs_wait SB K c (by decide) (rs_slot c) ?_
  refine rs_wait_last SB K c (rs_slot c) ?_
  refine BI.Entails.trans (?_ : _ ⊢ iprop(inSt rsM c (RS SB c) ∗ records SB K ∗ owing c (dueTo 4 0) ∗ atPos ER (cellAt c 2) 1 ∅ 0 ∗ R)) ?_
  · iintro ⟨Hr, HO, Hw, HR⟩
    ihave ⟨Hat, Hx⟩ := (rs_whole SB c) $$ Hw
    isplitl [Hx]; · iexact Hx
    isplitl [Hr]; · iexact Hr
    isplitl [HO]; · iexact HO
    isplitl [Hat]; · iexact Hat
    iexact HR
  refine in_load c (Memref.read_access_unit_zero (Elt F) cc0_scratch4 (by decide) _ _) ?_
  exact ret_step c h

end

end Cert.KernelIdealProof
end
-- ==== Proof.Gather.lean ====
/-
# The body's last parts: the gather and the final waits

A device stores its summed rows, shares them out over 32 copies into its block of every device's result, waits for the 32
blocks of its own result, and at last waits for the sends of both exchanges to be done, turn about.
-/
module

public import proofs.«01_k».proof.Proof.Scatter

@[expose] public section

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

section
variable (SB : Dev nD → Pieces F) (K : Dev nD × Fin 5 → ℕ) (c : Dev nD)

/-! ## The gather's states -/

/-- The buffer of summed rows, filled or not. -/
def agSt (v : Prop) : sProp 𝕄 := filled agM c Finset.univ (fun _ => v) (AG SB c)

abbrev agR (inb : ∀ a, (![0, 0] : Fin 2 → Nat) a + S8x512.size a ≤ S8x512.size a) : Rect S8x512 :=
  Rect.unit (s := S8x512) ![0, 0] S8x512.size inb

/-- The load and the store that fill the buffer of summed rows. -/
theorem ag_step {α : Type} {Q : α → sProp 𝕄} {R : sProp 𝕄} {inb} {hl : agM.view.LoadsAt (agR inb).toLoadRect} {w : S8x512.Idx → Elt F .bf16}
    {hx : (agM.access (agR inb)).Stores Finset.univ} {hm} (hw : w = AG SB c)
    {k : PUnit → Prog (TpuEff nD τ sig (Elt F) Λ₀ .tc) α}
    (H : iprop(agSt SB c True ∗ R) ⊢ WP c (k ⟨⟩) Q) :
    iprop(agSt SB c False ∗ R)
      ⊢ WP c (.op (.load agM (agR inb).toLoadRect hl) fun _ => .op (.store agM (agR inb) w Finset.univ hx hm) k) Q :=
  load_any c (m := agM) (I := Finset.univ) (P := fun _ => False) (T := AG SB c) (r := agR inb) (Finset.subset_univ _) fun _ =>
    store_filled c (m := agM) (I := Finset.univ) (P := fun _ => False) (P' := fun _ => True) (T := AG SB c) (r := agR inb) (Finset.subset_univ _)
      (hw.trans (Memref.read_access_unit_zero (Elt F) cc0_scratch5 (by decide) _ (AG SB c)).symm)
      (fun i _ hi => hi (by
        refine Finset.mem_map.mpr ⟨i, Finset.mem_univ _, ?_⟩
        funext a
        refine Fin.ext ((Rect.emb_apply _ _ _).trans ?_)
        fin_cases a <;> exact (Nat.zero_add _).trans (Nat.one_mul _)))
      H

/-- The tokens of the 32 copies: both ends' duties. -/
def gatherToks : sProp 𝕄 :=
  bigSep Finset.univ fun j : Fin 32 => iprop(dutyTok ER (cellAt c 3) 0 j ∗ dutyTok ER (cellAt j 4) 0 c)

/-- The buffer of summed rows is its 32 shares. -/
theorem ag_leaves (f : Piece F) :
    (((c : Thread nD τ).loc cc0_scratch5 ↦{fullShare} f) : sProp 𝕄) = bigSep Finset.univ fun j : Fin 32 => agPts c j f :=
  ShareLeaves.pointsTo_leaves (ℓ := (c : Thread nD τ).loc cc0_scratch5) Finset.univ f 5 fullShare

theorem gatherSt_start :
    iprop(owing c (dueTo 4 0) ∗ gatherToks c ∗ blocks (F := F) c ∗ agSt SB c True) ⊢ gatherSt SB c 0 := by
  unfold gatherToks gatherSt blocks agSt filled
  rw [ge_zero, lt_zero, bigSep_empty]
  simp only [bigSep_sep']
  iintro ⟨HO, ⟨Ht1, Ht2⟩, Hout, ⟨%f, %hf, Hx⟩⟩
  obtain rfl : f = AG SB c := funext fun i => hf i trivial
  ihave Hx := (Entails.of_eq (ag_leaves c (AG SB c))) $$ Hx
  isplitl [HO]; · iexact HO
  isplitr []
  · isplitl [Ht1]; · iexact Ht1
    isplitl [Ht2]; · iexact Ht2
    isplitl [Hout]; · iexact Hout
    iexact Hx
  · iempintro

/-- One copy of the gather. -/
theorem ag_send {n : ℕ} (hn : n < 32) {dM : Memref sig .tc .vmem S8x512 .bf16} (hd : dM = blkM outM c)
    {hsc : (dM : Memref sig ((⟨n, hn⟩ : Dev nD) : Thread nD τ).2.kind .vmem S8x512 .bf16).view.ref.isScScratch = false}
    {hsrc : agM.view.WordExact} {hdst : dM.view.WordExact}
    {hsem : DmaTarget.Typed .vmem (.dma cc0_scratch9.sem) (.remote ((⟨n, hn⟩ : Dev nD) : Thread nD τ) (dM : Memref sig .tc .vmem S8x512 .bf16) (.dma cc0_scratch8.sem) hsc)}
    {α : Type} {Q : α → sProp 𝕄} {k : PUnit → Prog (TpuEff nD τ sig (Elt F) Λ₀ .tc) α} {R : sProp 𝕄}
    (h : iprop(records SB K ∗ gatherSt SB c (n + 1) ∗ R) ⊢ WP c (k ⟨⟩) Q) :
    iprop(records SB K ∗ gatherSt SB c n ∗ R)
      ⊢ WP c (.op (.enqueueDma agM (.remote ((⟨n, hn⟩ : Dev nD) : Thread nD τ) dM (.dma cc0_scratch8.sem) hsc) (.dma cc0_scratch9.sem) hsrc hdst hsem) k) Q :=
  gather_step SB K c ⟨n, hn⟩ hd h

/-- The credits of the gather's 32 sends. -/
def gatherCreds : sProp 𝕄 := bigSep Finset.univ fun _ : Fin 32 => cred (tallyAt (cellAt c 3) () N)

theorem gatherSt_end : gatherSt SB c 32 ⊢ iprop(owing c 0 ∗ gatherCreds (F := F) c) := by
  unfold gatherSt gatherCreds
  rw [dueTo_last, lt_last]
  iintro ⟨HO, -, Hcr⟩
  isplitl [HO]; · iexact HO
  iexact Hcr

/-- A cell at its start with the credits of its 32 copies is ready for the waits. -/
theorem waitSt_start (k : Fin 5) :
    iprop(atPos ER (cellAt c k) 0 ∅ 0 ∗ bigSep Finset.univ fun _ : Fin 32 => cred (tallyAt (cellAt c k) () N)) ⊢ waitSt SB c k 0 := by
  unfold waitSt
  rw [ge_zero, zero_mul]
  iintro ⟨Hat, Hcr⟩
  iexists ∅
  isplitl [Hat]; · iexact Hat
  isplitr; · rw [bigSep_empty]; iempintro
  iexact Hcr

/-! ## Waits that owe nothing -/

theorem mayWait_none (s : SemLoc sig) : (levAts L lv : sProp 𝕄) ⊢ MayWait (c : Thread nD τ) s () 0 := by
  rw [MayWait_zero]; iintro -; iempintro

theorem credit_ag : agM.view.dmaCredit = N := rfl

/-- One wait for a block of the result. -/
theorem out_wait {n : ℕ} (hn : n + 1 < 32) {sM dM : Memref sig .tc .vmem S8x512 .bf16} {hsM : sM.view.WordExact} {hdM : dM.view.WordExact}
    (hd : dM = blkM outM c) {α : Type} {Q : α → sProp 𝕄} {k : PUnit → Prog (TpuEff nD τ sig (Elt F) Λ₀ .tc) α} {R : sProp 𝕄}
    (h : iprop(records SB K ∗ owing c 0 ∗ waitSt SB c 4 (n + 1) ∗ R) ⊢ WP c (k ⟨⟩) Q) :
    iprop(records SB K ∗ owing c 0 ∗ waitSt SB c 4 n ∗ R)
      ⊢ WP c (.op (.waitDma2 cc0_scratch9.sem sM dM hsM hdM) k) Q :=
  wait_step SB K c 4 (amt_xfer (by decide)) ⟨n, by omega⟩ hn 0 (mayWait_none c _) (hd ▸ credit_blk c)
    (wpE_waitDma2_eq 𝒱₀ (c : Thread nD τ) none Set.univ) h

theorem out_wait_last {sM dM : Memref sig .tc .vmem S8x512 .bf16} {hsM : sM.view.WordExact} {hdM : dM.view.WordExact}
    (hd : dM = blkM outM c) {α : Type} {Q : α → sProp 𝕄} {k : PUnit → Prog (TpuEff nD τ sig (Elt F) Λ₀ .tc) α} {R : sProp 𝕄}
    (h : iprop(records SB K ∗ owing c 0 ∗ waitDone SB c 4 ∗ R) ⊢ WP c (k ⟨⟩) Q) :
    iprop(records SB K ∗ owing c 0 ∗ waitSt SB c 4 31 ∗ R)
      ⊢ WP c (.op (.waitDma2 cc0_scratch9.sem sM dM hsM hdM) k) Q :=
  wait_last SB K c 4 (amt_xfer (by decide)) 0 (mayWait_none c _) (hd ▸ credit_blk c)
    (wpE_waitDma2_eq 𝒱₀ (c : Thread nD τ) none Set.univ) h

/-- Between the final waits: `n` of the scatter's sends and `m` of the gather's waited for. -/
def lastSt (n m : ℕ) : sProp 𝕄 := iprop(owing c 0 ∗ waitSt SB c 1 n ∗ waitSt SB c 3 m)

/-- One wait for a send of the scatter. -/
theorem back_scatter {n m : ℕ} (hn : n + 1 < 32) {sM dM : Memref sig .tc .vmem S8x512 .bf16} {hsM : sM.view.WordExact} {hdM : dM.view.WordExact}
    (hd : dM = slotM sbufM 0) {α : Type} {Q : α → sProp 𝕄} {k : PUnit → Prog (TpuEff nD τ sig (Elt F) Λ₀ .tc) α} {R : sProp 𝕄}
    (h : iprop(records SB K ∗ lastSt SB c (n + 1) m ∗ R) ⊢ WP c (k ⟨⟩) Q) :
    iprop(records SB K ∗ lastSt SB c n m ∗ R)
      ⊢ WP c (.op (.waitDma2 cc0_scratch6.sem sM dM hsM hdM) k) Q := by
  refine BI.Entails.trans (?_ : _ ⊢ iprop(records SB K ∗ owing c 0 ∗ waitSt SB c 1 n ∗ waitSt SB c 3 m ∗ R))
    (wait_step SB K c 1 (amt_xfer (by decide)) ⟨n, by omega⟩ hn 0 (mayWait_none c _) (hd ▸ credit_slot_sbuf 0)
      (wpE_waitDma2_eq 𝒱₀ (c : Thread nD τ) none Set.univ) (BI.Entails.trans (?_ : _ ⊢ iprop(records SB K ∗ lastSt SB c (n + 1) m ∗ R)) h))
  · unfold lastSt
    iintro ⟨Hr, ⟨HO, H1, H3⟩, HR⟩
    isplitl [Hr]; · iexact Hr
    isplitl [HO]; · iexact HO
    isplitl [H1]; · iexact H1
    isplitl [H3]; · iexact H3
    iexact HR
  · unfold lastSt
    iintro ⟨Hr, HO, H1, H3, HR⟩
    isplitl [Hr]; · iexact Hr
    isplitr [HR]
    · isplitl [HO]; · iexact HO
      isplitl [H1]; · iexact H1
      iexact H3
    iexact HR

/-- One wait for a send of the gather. -/
theorem back_gather {n m : ℕ} (hm : m + 1 < 32) {sM : Memref sig .tc .vmem S8x512 .bf16} {hsM : sM.view.WordExact} {hdM : agM.view.WordExact}
    {α : Type} {Q : α → sProp 𝕄} {k : PUnit → Prog (TpuEff nD τ sig (Elt F) Λ₀ .tc) α} {R : sProp 𝕄}
    (h : iprop(records SB K ∗ lastSt SB c n (m + 1) ∗ R) ⊢ WP c (k ⟨⟩) Q) :
    iprop(records SB K ∗ lastSt SB c n m ∗ R)
      ⊢ WP c (.op (.waitDma2 cc0_scratch8.sem sM agM hsM hdM) k) Q := by
  refine BI.Entails.trans (?_ : _ ⊢ iprop(records SB K ∗ owing c 0 ∗ waitSt SB c 3 m ∗ waitSt SB c 1 n ∗ R))
    (wait_step SB K c 3 (amt_xfer (by decide)) ⟨m, by omega⟩ hm 0 (mayWait_none c _) credit_ag
      (wpE_waitDma2_eq 𝒱₀ (c : Thread nD τ) none Set.univ) (BI.Entails.trans (?_ : _ ⊢ iprop(records SB K ∗ lastSt SB c n (m + 1) ∗ R)) h))
  · unfold lastSt
    iintro ⟨Hr, ⟨HO, H1, H3⟩, HR⟩
    isplitl [Hr]; · iexact Hr
    isplitl [HO]; · iexact HO
    isplitl [H3]; · iexact H3
    isplitl [H1]; · iexact H1
    iexact HR
  · unfold lastSt
    iintro ⟨Hr, HO, H3, H1, HR⟩
    isplitl [Hr]; · iexact Hr
    isplitr [HR]
    · isplitl [HO]; · iexact HO
      isplitl [H1]; · iexact H1
      iexact H3
    iexact HR

/-- The last two waits. -/
theorem back_last {sM dM sM' : Memref sig .tc .vmem S8x512 .bf16} {hsM : sM.view.WordExact} {hdM : dM.view.WordExact}
    {hsM' : sM'.view.WordExact} {hdM' : agM.view.WordExact}
    (hd : dM = slotM sbufM 0) {α : Type} {Q : α → sProp 𝕄} {k : PUnit → Prog (TpuEff nD τ sig (Elt F) Λ₀ .tc) α} {R : sProp 𝕄}
    (h : iprop(records SB K ∗ owing c 0 ∗ waitDone SB c 3 ∗ waitDone SB c 1 ∗ R) ⊢ WP c (k ⟨⟩) Q) :
    iprop(records SB K ∗ lastSt SB c 31 31 ∗ R)
      ⊢ WP c (.op (.waitDma2 cc0_scratch6.sem sM dM hsM hdM) fun _ => .op (.waitDma2 cc0_scratch8.sem sM' agM hsM' hdM') k) Q := by
  refine BI.Entails.trans (?_ : _ ⊢ iprop(records SB K ∗ owing c 0 ∗ waitSt SB c 1 31 ∗ waitSt SB c 3 31 ∗ R))
    (wait_last SB K c 1 (amt_xfer (by decide)) 0 (mayWait_none c _) (hd ▸ credit_slot_sbuf 0)
      (wpE_waitDma2_eq 𝒱₀ (c : Thread nD τ) none Set.univ)
      (BI.Entails.trans (?_ : _ ⊢ iprop(records SB K ∗ owing c 0 ∗ waitSt SB c 3 31 ∗ waitDone SB c 1 ∗ R))
        (wait_last SB K c 3 (amt_xfer (by decide)) 0 (mayWait_none c _) credit_ag
          (wpE_waitDma2_eq 𝒱₀ (c : Thread nD τ) none Set.univ) h)))
  · unfold lastSt
    iintro ⟨Hr, ⟨HO, H1, H3⟩, HR⟩
    isplitl [Hr]; · iexact Hr
    isplitl [HO]; · iexact HO
    isplitl [H1]; · iexact H1
    isplitl [H3]; · iexact H3
    iexact HR
  · iintro ⟨Hr, HO, H1, H3, HR⟩
    isplitl [Hr]; · iexact Hr
    isplitl [HO]; · iexact HO
    isplitl [H3]; · iexact H3
    isplitl [H1]; · iexact H1
    iexact HR

/-! ## The buffers, whole again -/

/-- The result is its 32 blocks. -/
theorem out_blocks (f : Result F) :
    (((c : Thread nD τ).loc cc0_stg5_0 ↦{fullShare} f) : sProp 𝕄) = bigSep Finset.univ fun j => outPts c j f := by
  refine Eq.trans ?_ (pointsTo_biUnion (ℓ := (c : Thread nD τ).loc cc0_stg5_0) (q := fullShare) (f := f)
    Finset.univ blkSet fun t _ t' _ h => blkSet_disjoint t t' h)
  refine congrArg (fun I => (((c : Thread nD τ).loc cc0_stg5_0 ↦[I]{fullShare} f) : sProp 𝕄)) (Finset.ext fun i => ?_)
  exact ⟨fun _ => Finset.mem_biUnion.mpr ⟨blkOf i, Finset.mem_univ _, (mem_blkSet i _).mpr rfl⟩, fun _ => Finset.mem_univ _⟩

/-- The send buffer is its 32 slots. -/
theorem sb_blocks (f : Pieces F) :
    (((c : Thread nD τ).loc cc0_scratch3 ↦{fullShare} f) : sProp 𝕄) = bigSep Finset.univ fun j => sbPts c j f := by
  refine Eq.trans ?_ (pointsTo_biUnion (ℓ := (c : Thread nD τ).loc cc0_scratch3) (q := fullShare) (f := f)
    Finset.univ slotSet fun t _ t' _ h => slotSet_disjoint t t' h)
  refine congrArg (fun I => (((c : Thread nD τ).loc cc0_scratch3 ↦[I]{fullShare} f) : sProp 𝕄)) (Finset.ext fun i => ?_)
  exact ⟨fun _ => Finset.mem_biUnion.mpr ⟨i 0, Finset.mem_univ _, (mem_slotSet i _).mpr rfl⟩, fun _ => Finset.mem_univ _⟩

/-- All waits done, the send buffer, the summed rows and the result are held whole, and the result is complete. -/
theorem done_sb : waitDone SB c 1 ⊢ iprop(atPos ER (cellAt c 1) 1 ∅ 0 ∗ ((c : Thread nD τ).loc cc0_scratch3 ↦{fullShare} (SB c))) := by
  unfold waitDone
  exact Entails.of_eq (congrArg (fun P : sProp 𝕄 => iprop(atPos ER (cellAt c 1) 1 ∅ 0 ∗ P)) (sb_blocks c (SB c)).symm)

theorem done_ag : waitDone SB c 3 ⊢ iprop(atPos ER (cellAt c 3) 1 ∅ 0 ∗ ((c : Thread nD τ).loc cc0_scratch5 ↦{fullShare} (AG SB c))) := by
  unfold waitDone
  exact Entails.of_eq (congrArg (fun P : sProp 𝕄 => iprop(atPos ER (cellAt c 3) 1 ∅ 0 ∗ P)) (ag_leaves c (AG SB c)).symm)

theorem done_out : waitDone SB c 4 ⊢ iprop(atPos ER (cellAt c 4) 1 ∅ 0 ∗ ((c : Thread nD τ).loc cc0_stg5_0 ↦{fullShare} (OUT SB))) := by
  unfold waitDone
  exact Entails.of_eq (congrArg (fun P : sProp 𝕄 => iprop(atPos ER (cellAt c 4) 1 ∅ 0 ∗ P)) (out_blocks c (OUT SB)).symm)

/-! ## The parts -/

set_option maxHeartbeats 1000000 in
/-- Part 23: the summed rows stored, and copy 0 of the gather. -/
theorem part23_run (v2 : BitVec 32) {Q : PUnit → sProp 𝕄} {R : sProp 𝕄}
    (h : iprop(records SB K ∗ gatherSt SB c 1 ∗ R) ⊢ Q ⟨⟩) :
    iprop(agSt SB c False ∗ records SB K ∗ owing c (dueTo 4 0) ∗ gatherToks c ∗ blocks (F := F) c ∗ R) ⊢ WP c (atArgs (k0_part23 (F := F)) c v2 (RS SB c)) Q := by
  rw [k0_part23_eq_skeleton]
  unfold atArgs k0_part23_skel
  simp only [Prog.lift, Prog.bind_op, Prog.bind_ret, Prog.pure_eq_ret]
  refine ag_step SB c rfl ?_
  refine BI.Entails.trans (?_ : _ ⊢ iprop(records SB K ∗ gatherSt SB c 0 ∗ R)) ?_
  · iintro ⟨Ha, Hr, HO, Ht, Hb, HR⟩
    isplitl [Hr]; · iexact Hr
    isplitr [HR]
    · iapply (gatherSt_start SB c)
      isplitl [HO]; · iexact HO
      isplitl [Ht]; · iexact Ht
      isplitl [Hb]; · iexact Hb
      iexact Ha
    iexact HR
  iterate 1 refine ag_send SB K c (by decide) (out_blk c) ?_
  exact ret_step c h

set_option maxHeartbeats 1000000 in
/-- Part 24: copies 1 to 12. -/
theorem part24_run {Q : PUnit → sProp 𝕄} {R : sProp 𝕄}
    (h : iprop(records SB K ∗ gatherSt SB c 13 ∗ R) ⊢ Q ⟨⟩) :
    iprop(records SB K ∗ gatherSt SB c 1 ∗ R) ⊢ WP c (atArgs (k0_part24 (F := F)) c) Q := by
  rw [k0_part24_eq_skeleton]
  unfold atArgs k0_part24_skel
  simp only [Prog.lift, Prog.bind_op, Prog.bind_ret, Prog.pure_eq_ret]
  iterate 12 refine ag_send SB K c (by decide) (out_blk c) ?_
  exact ret_step c h

set_option maxHeartbeats 1000000 in
/-- Part 25: copies 13 to 24. -/
theorem part25_run {Q : PUnit → sProp 𝕄} {R : sProp 𝕄}
    (h : iprop(records SB K ∗ gatherSt SB c 25 ∗ R) ⊢ Q ⟨⟩) :
    iprop(records SB K ∗ gatherSt SB c 13 ∗ R) ⊢ WP c (atArgs (k0_part25 (F := F)) c) Q := by
  rw [k0_part25_eq_skeleton]
  unfold atArgs k0_part25_skel
  simp only [Prog.lift, Prog.bind_op, Prog.bind_ret, Prog.pure_eq_ret]
  iterate 12 refine ag_send SB K c (by decide) (out_blk c) ?_
  exact ret_step c h

set_option maxHeartbeats 1000000 in
/-- Part 26: copies 25 to 31, and five waits for blocks of the result. -/
theorem part26_run {Q : PUnit → sProp 𝕄} {R : sProp 𝕄}
    (h : iprop(records SB K ∗ owing c 0 ∗ waitSt SB c 4 5 ∗ gatherCreds (F := F) c ∗ R) ⊢ Q ⟨⟩) :
    iprop(records SB K ∗ gatherSt SB c 25 ∗ waitSt SB c 4 0 ∗ R) ⊢ WP c (atArgs (k0_part26 (F := F)) c) Q := by
  rw [k0_part26_eq_skeleton]
  unfold atArgs k0_part26_skel
  simp only [Prog.lift, Prog.bind_op, Prog.bind_ret, Prog.pure_eq_ret]
  iterate 7 refine ag_send SB K c (by decide) (out_blk c) ?_
  refine BI.Entails.trans (?_ : _ ⊢ iprop(records SB K ∗ owing c 0 ∗ waitSt SB c 4 0 ∗ gatherCreds (F := F) c ∗ R)) ?_
  · iintro ⟨Hr, Hg, Hw, HR⟩
    ihave ⟨HO, Hc⟩ := (gatherSt_end SB c) $$ Hg
    isplitl [Hr]; · iexact Hr
    isplitl [HO]; · iexact HO
    isplitl [Hw]; · iexact Hw
    isplitl [Hc]; · iexact Hc
    iexact HR
  iterate 5 refine out_wait SB K c (by decide) (out_blk c) ?_
  exact ret_step c h

set_option maxHeartbeats 1000000 in
/-- Part 27: twelve waits for blocks. -/
theorem part27_run {Q : PUnit → sProp 𝕄} {R : sProp 𝕄}
    (h : iprop(records SB K ∗ owing c 0 ∗ waitSt SB c 4 17 ∗ R) ⊢ Q ⟨⟩) :
    iprop(records SB K ∗ owing c 0 ∗ waitSt SB c 4 5 ∗ R) ⊢ WP c (atArgs (k0_part27 (F := F)) c) Q := by
  rw [k0_part27_eq_skeleton]
  unfold atArgs k0_part27_skel
  simp only [Prog.lift, Prog.bind_op, Prog.bind_ret, Prog.pure_eq_ret]
  iterate 12 refine out_wait SB K c (by decide) (out_blk c) ?_
  exact ret_step c h

set_option maxHeartbeats 1000000 in
/-- Part 28: twelve waits for blocks. -/
theorem part28_run {Q : PUnit → sProp 𝕄} {R : sProp 𝕄}
    (h : iprop(records SB K ∗ owing c 0 ∗ waitSt SB c 4 29 ∗ R) ⊢ Q ⟨⟩) :
    iprop(records SB K ∗ owing c 0 ∗ waitSt SB c 4 17 ∗ R) ⊢ WP c (atArgs (k0_part28 (F := F)) c) Q := by
  rw [k0_part28_eq_skeleton]
  unfold atArgs k0_part28_skel
  simp only [Prog.lift, Prog.bind_op, Prog.bind_ret, Prog.pure_eq_ret]
  iterate 12 refine out_wait SB K c (by decide) (out_blk c) ?_
  exact ret_step c h

set_option maxHeartbeats 1000000 in
/-- Part 29: the last three waits for blocks, then waits for sends. -/
theorem part29_run {Q : PUnit → sProp 𝕄} {R : sProp 𝕄}
    (h : iprop(records SB K ∗ lastSt SB c 3 2 ∗ waitDone SB c 4 ∗ R) ⊢ Q ⟨⟩) :
    iprop(records SB K ∗ owing c 0 ∗ waitSt SB c 4 29 ∗ waitSt SB c 1 0 ∗ waitSt SB c 3 0 ∗ R) ⊢ WP c (atArgs (k0_part29 (F := F)) c) Q := by
  rw [k0_part29_eq_skeleton]
  unfold atArgs k0_part29_skel
  simp only [Prog.lift, Prog.bind_op, Prog.bind_ret, Prog.pure_eq_ret]
  iterate 2 refine out_wait SB K c (by decide) (out_blk c) ?_
  refine out_wait_last SB K c (out_blk c) ?_
  refine BI.Entails.trans (?_ : _ ⊢ iprop(records SB K ∗ lastSt SB c 0 0 ∗ waitDone SB c 4 ∗ R)) ?_
  · unfold lastSt
    iintro ⟨Hr, HO, Hd, H1, H3, HR⟩
    isplitl [Hr]; · iexact Hr
    isplitl [HO H1 H3]
    · isplitl [HO]; · iexact HO
      isplitl [H1]; · iexact H1
      iexact H3
    isplitl [Hd]; · iexact Hd
    iexact HR
  refine back_scatter SB K c (by decide) rfl ?_
  refine back_gather SB K c (by decide) ?_
  refine back_scatter SB K c (by decide) rfl ?_
  refine back_gather SB K c (by decide) ?_
  refine back_scatter SB K c (by decide) rfl ?_
  exact ret_step c h

set_option maxHeartbeats 1000000 in
/-- Part 30: waits for sends. -/
theorem part30_run {Q : PUnit → sProp 𝕄} {R : sProp 𝕄}
    (h : iprop(records SB K ∗ lastSt SB c 6 6 ∗ R) ⊢ Q ⟨⟩) :
    iprop(records SB K ∗ lastSt SB c 3 2 ∗ R) ⊢ WP c (atArgs (k0_part30 (F := F)) c) Q := by
  rw [k0_part30_eq_skeleton]
  unfold atArgs k0_part30_skel
  simp only [Prog.lift, Prog.bind_op, Prog.bind_ret, Prog.pure_eq_ret]
  refine back_gather SB K c (by decide) ?_
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  exact ret_step c h

set_option maxHeartbeats 1000000 in
/-- Part 31: waits for sends. -/
theorem part31_run {Q : PUnit → sProp 𝕄} {R : sProp 𝕄}
    (h : iprop(records SB K ∗ lastSt SB c 9 9 ∗ R) ⊢ Q ⟨⟩) :
    iprop(records SB K ∗ lastSt SB c 6 6 ∗ R) ⊢ WP c (atArgs (k0_part31 (F := F)) c) Q := by
  rw [k0_part31_eq_skeleton]
  unfold atArgs k0_part31_skel
  simp only [Prog.lift, Prog.bind_op, Prog.bind_ret, Prog.pure_eq_ret]
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  exact ret_step c h

set_option maxHeartbeats 1000000 in
/-- Part 32: waits for sends. -/
theorem part32_run {Q : PUnit → sProp 𝕄} {R : sProp 𝕄}
    (h : iprop(records SB K ∗ lastSt SB c 13 12 ∗ R) ⊢ Q ⟨⟩) :
    iprop(records SB K ∗ lastSt SB c 9 9 ∗ R) ⊢ WP c (atArgs (k0_part32 (F := F)) c) Q := by
  rw [k0_part32_eq_skeleton]
  unfold atArgs k0_part32_skel
  simp only [Prog.lift, Prog.bind_op, Prog.bind_ret, Prog.pure_eq_ret]
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  refine back_scatter SB K c (by decide) rfl ?_
  exact ret_step c h

set_option maxHeartbeats 1000000 in
/-- Part 33: waits for sends. -/
theorem part33_run {Q : PUnit → sProp 𝕄} {R : sProp 𝕄}
    (h : iprop(records SB K ∗ lastSt SB c 16 16 ∗ R) ⊢ Q ⟨⟩) :
    iprop(records SB K ∗ lastSt SB c 13 12 ∗ R) ⊢ WP c (atArgs (k0_part33 (F := F)) c) Q := by
  rw [k0_part33_eq_skeleton]
  unfold atArgs k0_part33_skel
  simp only [Prog.lift, Prog.bind_op, Prog.bind_ret, Prog.pure_eq_ret]
  refine back_gather SB K c (by decide) ?_
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  exact ret_step c h

set_option maxHeartbeats 1000000 in
/-- Part 34: waits for sends. -/
theorem part34_run {Q : PUnit → sProp 𝕄} {R : sProp 𝕄}
    (h : iprop(records SB K ∗ lastSt SB c 19 19 ∗ R) ⊢ Q ⟨⟩) :
    iprop(records SB K ∗ lastSt SB c 16 16 ∗ R) ⊢ WP c (atArgs (k0_part34 (F := F)) c) Q := by
  rw [k0_part34_eq_skeleton]
  unfold atArgs k0_part34_skel
  simp only [Prog.lift, Prog.bind_op, Prog.bind_ret, Prog.pure_eq_ret]
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  exact ret_step c h

set_option maxHeartbeats 1000000 in
/-- Part 35: waits for sends. -/
theorem part35_run {Q : PUnit → sProp 𝕄} {R : sProp 𝕄}
    (h : iprop(records SB K ∗ lastSt SB c 23 22 ∗ R) ⊢ Q ⟨⟩) :
    iprop(records SB K ∗ lastSt SB c 19 19 ∗ R) ⊢ WP c (atArgs (k0_part35 (F := F)) c) Q := by
  rw [k0_part35_eq_skeleton]
  unfold atArgs k0_part35_skel
  simp only [Prog.lift, Prog.bind_op, Prog.bind_ret, Prog.pure_eq_ret]
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  refine back_scatter SB K c (by decide) rfl ?_
  exact ret_step c h

set_option maxHeartbeats 1000000 in
/-- Part 36: waits for sends. -/
theorem part36_run {Q : PUnit → sProp 𝕄} {R : sProp 𝕄}
    (h : iprop(records SB K ∗ lastSt SB c 26 26 ∗ R) ⊢ Q ⟨⟩) :
    iprop(records SB K ∗ lastSt SB c 23 22 ∗ R) ⊢ WP c (atArgs (k0_part36 (F := F)) c) Q := by
  rw [k0_part36_eq_skeleton]
  unfold atArgs k0_part36_skel
  simp only [Prog.lift, Prog.bind_op, Prog.bind_ret, Prog.pure_eq_ret]
  refine back_gather SB K c (by decide) ?_
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  exact ret_step c h

set_option maxHeartbeats 1000000 in
/-- Part 37: waits for sends. -/
theorem part37_run {Q : PUnit → sProp 𝕄} {R : sProp 𝕄}
    (h : iprop(records SB K ∗ lastSt SB c 29 29 ∗ R) ⊢ Q ⟨⟩) :
    iprop(records SB K ∗ lastSt SB c 26 26 ∗ R) ⊢ WP c (atArgs (k0_part37 (F := F)) c) Q := by
  rw [k0_part37_eq_skeleton]
  unfold atArgs k0_part37_skel
  simp only [Prog.lift, Prog.bind_op, Prog.bind_ret, Prog.pure_eq_ret]
  refine back_scatter SB K c (by decide) rfl ?_
  refine back_gather SB K c (by decide) ?_
  refine back_scatter SB K c (by decide) rfl ?_
  refine back_gather SB K c (by decide) ?_
  refine back_scatter SB K c (by decide) rfl ?_
  refine back_gather SB K c (by decide) ?_
  exact ret_step c h

end

end Cert.KernelIdealProof
end
-- ==== Proof.Body.lean ====
/-
# The body, part after part
-/
module

public import proofs.«01_k».proof.Proof.Gather

@[expose] public section

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

section
variable (SB : Dev nD → Pieces F) (K : Dev nD × Fin 5 → ℕ)
variable (X : Vec F S2x128x512 .bf16) (WQ WK WV WO : Vec F S512x512 .bf16) (c : Dev nD)

instance sep_associative : Std.Associative (α := sProp 𝕄) BIBase.sep :=
  ⟨fun _ _ _ => BI.Entails.antisymm BI.sep_assoc BI.sep_assoc'⟩
instance sep_commutative : Std.Commutative (α := sProp 𝕄) BIBase.sep :=
  ⟨fun _ _ => BI.Entails.antisymm BI.sep_comm BI.sep_comm⟩

/-- Reading the same resources in another order. -/
theorem rearr {A B Y : sProp 𝕄} (e : A = B) (h : B ⊢ Y) : A ⊢ Y := e ▸ h

/-- A part, then the rest. -/
theorem seq {α β : Type} {P : sProp 𝕄} {p : Prog (TpuEff nD τ sig (Elt F) Λ₀ .tc) α} {k : α → Prog (TpuEff nD τ sig (Elt F) Λ₀ .tc) β}
    {Q : β → sProp 𝕄} (h : P ⊢ WP c p fun a => WP c (k a) Q) : P ⊢ WP c (p >>= k) Q := by
  unfold WP at *
  rw [wp_bind]; exact h

/-- What the body starts from. -/
def bodyIn : sProp 𝕄 :=
  iprop(records SB K ∗ sigSt c 0 ∗ inSt xM c X ∗ inSt wqM c WQ ∗ inSt wkM c WK ∗ inSt wvM c WV ∗ inSt woM c WO
    ∗ scSt X WQ WK c 0 0 ∗ atSt X WQ WK WV c 0 0 ∗ pjSt X WQ WK WV WO c 0 False ∗ sdSt X WQ WK WV WO c 0 False ∗ sdSt X WQ WK WV WO c 1 False ∗ agSt SB c False
    ∗ atPos ER (cellAt c 0) 0 ∅ 0 ∗ cred (tallyAt (cellAt c 0) () (32 * amt 0)) ∗ sendToks c ∗ gatherToks c
    ∗ atPos ER (cellAt c 1) 0 ∅ 0 ∗ waitSt SB c 2 0 ∗ atPos ER (cellAt c 3) 0 ∅ 0 ∗ waitSt SB c 4 0)

/-- What part 38 leaves: two waits are still to come. -/
def bodyMid : sProp 𝕄 :=
  iprop(records SB K ∗ lastSt SB c 30 30 ∗ waitDone SB c 4 ∗ inSt rsM c (RS SB c) ∗ atPos ER (cellAt c 2) 1 ∅ 0 ∗ atPos ER (cellAt c 0) 1 ∅ 0
    ∗ inSt xM c X ∗ inSt wqM c WQ ∗ inSt wkM c WK ∗ inSt wvM c WV ∗ inSt woM c WO
    ∗ scSt X WQ WK c 1 8 ∗ atSt X WQ WK WV c 1 8 ∗ pjSt X WQ WK WV WO c 1 True)

/-- What the body ends with. -/
def bodyOut : sProp 𝕄 :=
  iprop(records SB K ∗ owing c 0 ∗ waitDone SB c 3 ∗ waitDone SB c 1 ∗ waitDone SB c 4 ∗ inSt rsM c (RS SB c) ∗ atPos ER (cellAt c 2) 1 ∅ 0 ∗ atPos ER (cellAt c 0) 1 ∅ 0
    ∗ inSt xM c X ∗ inSt wqM c WQ ∗ inSt wkM c WK ∗ inSt wvM c WV ∗ inSt woM c WO
    ∗ scSt X WQ WK c 1 8 ∗ atSt X WQ WK WV c 1 8 ∗ pjSt X WQ WK WV WO c 1 True)

theorem first2 {A B A' R Y : sProp 𝕄} (hA : iprop(A ∗ B) ⊢ A') (h : iprop(A' ∗ R) ⊢ Y) : iprop(A ∗ B ∗ R) ⊢ Y :=
  BI.Entails.trans (BI.Entails.trans BI.sep_assoc' (sep_mono_left hA)) h
theorem first3 {A B C A' R Y : sProp 𝕄} (hA : iprop(A ∗ B ∗ C) ⊢ A') (h : iprop(A' ∗ R) ⊢ Y) : iprop(A ∗ B ∗ C ∗ R) ⊢ Y := by
  refine rearr (B := iprop((A ∗ B ∗ C) ∗ R)) (by ac_rfl) (BI.Entails.trans (sep_mono_left hA) h)
theorem swap3' {A B C R Y : sProp 𝕄} (h : iprop(B ∗ C ∗ A ∗ R) ⊢ Y) : iprop(A ∗ B ∗ C ∗ R) ⊢ Y :=
  rearr (by ac_rfl) h

/-- All signals sent, the barrier wait may start. -/
theorem barSt_intro : iprop(sigSt (F := F) c 32 ∗ atPos ER (cellAt c 0) 0 ∅ 0 ∗ cred (tallyAt (cellAt c 0) () (32 * amt 0))) ⊢ barSt c := by
  unfold sigSt barSt
  rw [dueTo_last, add_zero]
  iintro ⟨⟨HO, -⟩, Hat, Hc⟩
  isplitl [HO]; · iexact HO
  isplitl [Hat]; · iexact Hat
  iexact Hc

set_option maxHeartbeats 4000000 in
/-- Parts 1 to 37, in the order part 38 runs them, and its own two waits. -/
theorem part38_run (hSB : SB c = sendT X WQ WK WV WO) {Q : Dev nD → sProp 𝕄}
    (h : bodyMid SB K X WQ WK WV WO c ⊢ Q c) :
    bodyIn SB K X WQ WK WV WO c ⊢ WP c (atArgs (k0_part38 (F := F))) Q := by
  rw [k0_part38_eq_skeleton]
  unfold bodyIn atArgs k0_part38_skel
  refine seq c (part1_run SB K c ?_)
  refine seq c (part2_run SB K X WQ c ?_)
  refine rearr (B := iprop(inSt wkM c WK ∗ inSt wvM c WV ∗ inSt woM c WO ∗ scSt X WQ WK c 0 0 ∗ atSt X WQ WK WV c 0 0 ∗ pjSt X WQ WK WV WO c 0 False ∗ inSt xM c X ∗ inSt wqM c WQ ∗ records SB K ∗ sigSt c 32 ∗ sdSt X WQ WK WV WO c 0 False ∗ atPos ER (cellAt c 0) 0 ∅ 0 ∗ cred (tallyAt (cellAt c 0) () (32 * amt 0)) ∗ sendToks c ∗ sdSt X WQ WK WV WO c 1 False ∗ agSt SB c False ∗ gatherToks c ∗ atPos ER (cellAt c 1) 0 ∅ 0 ∗ waitSt SB c 2 0 ∗ atPos ER (cellAt c 3) 0 ∅ 0 ∗ waitSt SB c 4 0)) (by ac_rfl) ?_
  refine seq c (part3_run X WQ WK WV WO c ?_)
  refine seq c (part4_run X WQ WK c ?_)
  refine rearr (B := iprop(atSt X WQ WK WV c 0 0 ∗ pjSt X WQ WK WV WO c 0 False ∗ scSt X WQ WK c 0 8 ∗ inSt xM c X ∗ inSt wqM c WQ ∗ inSt wkM c WK ∗ inSt wvM c WV ∗ inSt woM c WO ∗ records SB K ∗ sigSt c 32 ∗ sdSt X WQ WK WV WO c 0 False ∗ atPos ER (cellAt c 0) 0 ∅ 0 ∗ cred (tallyAt (cellAt c 0) () (32 * amt 0)) ∗ sendToks c ∗ sdSt X WQ WK WV WO c 1 False ∗ agSt SB c False ∗ gatherToks c ∗ atPos ER (cellAt c 1) 0 ∅ 0 ∗ waitSt SB c 2 0 ∗ atPos ER (cellAt c 3) 0 ∅ 0 ∗ waitSt SB c 4 0)) (by ac_rfl) ?_
  refine seq c (part5_run X WQ WK WV c ?_)
  refine seq c (part6_run X WQ WK WV WO c ?_)
  refine rearr (B := iprop(sigSt c 32 ∗ atPos ER (cellAt c 0) 0 ∅ 0 ∗ cred (tallyAt (cellAt c 0) () (32 * amt 0)) ∗ records SB K ∗ sendToks c ∗ pjSt X WQ WK WV WO c 0 True ∗ sdSt X WQ WK WV WO c 0 False ∗ atSt X WQ WK WV c 0 8 ∗ scSt X WQ WK c 0 8 ∗ inSt xM c X ∗ inSt wqM c WQ ∗ inSt wkM c WK ∗ inSt wvM c WV ∗ inSt woM c WO ∗ sdSt X WQ WK WV WO c 1 False ∗ agSt SB c False ∗ gatherToks c ∗ atPos ER (cellAt c 1) 0 ∅ 0 ∗ waitSt SB c 2 0 ∗ atPos ER (cellAt c 3) 0 ∅ 0 ∗ waitSt SB c 4 0)) (by ac_rfl) ?_
  refine first3 (barSt_intro c) ?_
  refine rearr (B := iprop(records SB K ∗ barSt c ∗ sendToks c ∗ pjSt X WQ WK WV WO c 0 True ∗ sdSt X WQ WK WV WO c 0 False ∗ atSt X WQ WK WV c 0 8 ∗ scSt X WQ WK c 0 8 ∗ inSt xM c X ∗ inSt wqM c WQ ∗ inSt wkM c WK ∗ inSt wvM c WV ∗ inSt woM c WO ∗ sdSt X WQ WK WV WO c 1 False ∗ agSt SB c False ∗ gatherToks c ∗ atPos ER (cellAt c 1) 0 ∅ 0 ∗ waitSt SB c 2 0 ∗ atPos ER (cellAt c 3) 0 ∅ 0 ∗ waitSt SB c 4 0)) (by ac_rfl) ?_
  refine seq c (part7_run SB K X WQ WK WV WO c hSB ?_)
  refine seq c (part8_run SB K c ?_)
  refine seq c (part9_run SB K c ?_)
  refine rearr (B := iprop(scSt X WQ WK c 0 8 ∗ records SB K ∗ sendSt SB c 14 16 ∗ atPos ER (cellAt c 0) 1 ∅ 0 ∗ blocks (F := F) c ∗ pjSt X WQ WK WV WO c 0 True ∗ atSt X WQ WK WV c 0 8 ∗ inSt xM c X ∗ inSt wqM c WQ ∗ inSt wkM c WK ∗ inSt wvM c WV ∗ inSt woM c WO ∗ sdSt X WQ WK WV WO c 1 False ∗ agSt SB c False ∗ gatherToks c ∗ atPos ER (cellAt c 1) 0 ∅ 0 ∗ waitSt SB c 2 0 ∗ atPos ER (cellAt c 3) 0 ∅ 0 ∗ waitSt SB c 4 0)) (by ac_rfl) ?_
  refine first (scSt_start X WQ WK c 0 1 8) ?_
  refine rearr (B := iprop(records SB K ∗ sendSt SB c 14 16 ∗ scSt X WQ WK c 1 0 ∗ atSt X WQ WK WV c 0 8 ∗ pjSt X WQ WK WV WO c 0 True ∗ atPos ER (cellAt c 0) 1 ∅ 0 ∗ blocks (F := F) c ∗ inSt xM c X ∗ inSt wqM c WQ ∗ inSt wkM c WK ∗ inSt wvM c WV ∗ inSt woM c WO ∗ sdSt X WQ WK WV WO c 1 False ∗ agSt SB c False ∗ gatherToks c ∗ atPos ER (cellAt c 1) 0 ∅ 0 ∗ waitSt SB c 2 0 ∗ atPos ER (cellAt c 3) 0 ∅ 0 ∗ waitSt SB c 4 0)) (by ac_rfl) ?_
  refine seq c (part10_run SB K X WQ WK c ?_)
  refine seq c (part11_run X WQ WK WV c ?_)
  refine rearr (B := iprop(atSt X WQ WK WV c 0 8 ∗ pjSt X WQ WK WV WO c 0 True ∗ records SB K ∗ sendSt SB c 16 16 ∗ scSt X WQ WK c 1 8 ∗ atPos ER (cellAt c 0) 1 ∅ 0 ∗ blocks (F := F) c ∗ inSt xM c X ∗ inSt wqM c WQ ∗ inSt wkM c WK ∗ inSt wvM c WV ∗ inSt woM c WO ∗ sdSt X WQ WK WV WO c 1 False ∗ agSt SB c False ∗ gatherToks c ∗ atPos ER (cellAt c 1) 0 ∅ 0 ∗ waitSt SB c 2 0 ∗ atPos ER (cellAt c 3) 0 ∅ 0 ∗ waitSt SB c 4 0)) (by ac_rfl) ?_
  refine first (atSt_start X WQ WK WV c 0 1 8) ?_
  refine swap ?_
  refine first (pjSt_start X WQ WK WV WO c 0 1 True) ?_
  refine swap ?_
  refine seq c (part12_run X WQ WK WV c ?_)
  refine seq c (part13_run X WQ WK WV WO c ?_)
  refine rearr (B := iprop(records SB K ∗ sendSt SB c 16 16 ∗ sdSt X WQ WK WV WO c 1 False ∗ waitSt SB c 2 0 ∗ agSt SB c False ∗ gatherToks c ∗ atPos ER (cellAt c 1) 0 ∅ 0 ∗ atPos ER (cellAt c 3) 0 ∅ 0 ∗ waitSt SB c 4 0 ∗ atPos ER (cellAt c 0) 1 ∅ 0 ∗ blocks (F := F) c ∗ scSt X WQ WK c 1 8 ∗ atSt X WQ WK WV c 1 8 ∗ pjSt X WQ WK WV WO c 1 True ∗ inSt xM c X ∗ inSt wqM c WQ ∗ inSt wkM c WK ∗ inSt wvM c WV ∗ inSt woM c WO)) (by ac_rfl) ?_
  refine seq c (part14_run SB K X WQ WK WV WO c hSB ?_)
  refine seq c (part15_run SB K c ?_)
  refine seq c (part16_run SB K c ?_)
  refine seq c (part17_run SB K c ?_)
  refine seq c (part18_run SB K c ?_)
  refine seq c (part19_run SB K c ?_)
  refine seq c (part20_run SB K c ?_)
  refine seq c (part21_run SB K c ?_)
  refine seq c (part22_run SB K c ?_)
  refine rearr (B := iprop(agSt SB c False ∗ records SB K ∗ owing c (dueTo 4 0) ∗ gatherToks c ∗ blocks (F := F) c ∗ waitSt SB c 4 0 ∗ sendCreds (F := F) c ∗ atPos ER (cellAt c 1) 0 ∅ 0 ∗ atPos ER (cellAt c 3) 0 ∅ 0 ∗ inSt rsM c (RS SB c) ∗ atPos ER (cellAt c 2) 1 ∅ 0 ∗ atPos ER (cellAt c 0) 1 ∅ 0 ∗ scSt X WQ WK c 1 8 ∗ atSt X WQ WK WV c 1 8 ∗ pjSt X WQ WK WV WO c 1 True ∗ inSt xM c X ∗ inSt wqM c WQ ∗ inSt wkM c WK ∗ inSt wvM c WV ∗ inSt woM c WO)) (by ac_rfl) ?_
  refine seq c (part23_run SB K c _ ?_)
  refine seq c (part24_run SB K c ?_)
  refine seq c (part25_run SB K c ?_)
  refine seq c (part26_run SB K c ?_)
  refine seq c (part27_run SB K c ?_)
  refine seq c (part28_run SB K c ?_)
  refine rearr (B := iprop(atPos ER (cellAt c 1) 0 ∅ 0 ∗ sendCreds (F := F) c ∗ atPos ER (cellAt c 3) 0 ∅ 0 ∗ gatherCreds (F := F) c ∗ records SB K ∗ owing c 0 ∗ waitSt SB c 4 29 ∗ inSt rsM c (RS SB c) ∗ atPos ER (cellAt c 2) 1 ∅ 0 ∗ atPos ER (cellAt c 0) 1 ∅ 0 ∗ scSt X WQ WK c 1 8 ∗ atSt X WQ WK WV c 1 8 ∗ pjSt X WQ WK WV WO c 1 True ∗ inSt xM c X ∗ inSt wqM c WQ ∗ inSt wkM c WK ∗ inSt wvM c WV ∗ inSt woM c WO)) (by ac_rfl) ?_
  refine first2 (waitSt_start SB c 1) ?_
  refine swap3' ?_
  refine first2 (waitSt_start SB c 3) ?_
  refine rearr (B := iprop(records SB K ∗ owing c 0 ∗ waitSt SB c 4 29 ∗ waitSt SB c 1 0 ∗ waitSt SB c 3 0 ∗ inSt rsM c (RS SB c) ∗ atPos ER (cellAt c 2) 1 ∅ 0 ∗ atPos ER (cellAt c 0) 1 ∅ 0 ∗ scSt X WQ WK c 1 8 ∗ atSt X WQ WK WV c 1 8 ∗ pjSt X WQ WK WV WO c 1 True ∗ inSt xM c X ∗ inSt wqM c WQ ∗ inSt wkM c WK ∗ inSt wvM c WV ∗ inSt woM c WO)) (by ac_rfl) ?_
  refine seq c (part29_run SB K c ?_)
  refine seq c (part30_run SB K c ?_)
  refine seq c (part31_run SB K c ?_)
  refine seq c (part32_run SB K c ?_)
  refine seq c (part33_run SB K c ?_)
  refine seq c (part34_run SB K c ?_)
  refine seq c (part35_run SB K c ?_)
  refine seq c (part36_run SB K c ?_)
  refine seq c (part37_run SB K c ?_)
  simp only [Prog.lift, Prog.bind_op, Prog.bind_ret, Prog.pure_eq_ret]
  refine back_scatter SB K c (by decide) rfl ?_
  refine back_gather SB K c (by decide) ?_
  refine ret_step c (BI.Entails.trans ?_ h)
  unfold bodyMid
  exact rearr (by ac_rfl) (BI.Entails.refl _)

set_option maxHeartbeats 1000000 in
/-- The whole body. -/
theorem body_run (hSB : SB c = sendT X WQ WK WV WO) {Q : PUnit → sProp 𝕄}
    (h : bodyOut SB K X WQ WK WV WO c ⊢ Q ⟨⟩) :
    bodyIn SB K X WQ WK WV WO c ⊢ WP c (atArgs (cc0_body (F := F))) Q := by
  rw [cc0_body_eq_skeleton]
  unfold atArgs cc0_body_skel
  refine seq c (part38_run SB K X WQ WK WV WO c hSB ?_)
  simp only [Prog.lift, Prog.bind_op, Prog.bind_ret, Prog.pure_eq_ret]
  unfold bodyMid
  refine back_scatter SB K c (by decide) rfl ?_
  refine back_gather SB K c (by decide) ?_
  refine back_last SB K c rfl ?_
  refine ret_step c (BI.Entails.trans ?_ h)
  unfold bodyOut
  exact BI.Entails.refl _

end

end Cert.KernelIdealProof
end
-- ==== Proof.Start.lean ====
/-
# The body's obligation

What a device's body starts from at the launch, what it leaves, and that the body takes the one to the other.
-/
module

public import proofs.«01_k».proof.Proof.Body
public import Idealize.ShloMosaic.Lib.Rounds.Family
public import proofs.«01_k».proof.Proof.Gen.KernelIdeal.Launch
public import proofs.«01_k».proof.Proof.Gen.KernelIdeal.Points

@[expose] public section

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-! ## The operands -/

def xAt (c : Dev nD) : (cc0_stg0_0 : Ref sig .tc).ty.Contents (Elt F) := (win0_0.blk (0 : Fin 1)).view.read (Elt F) (m ((c : Thread nD τ).loc main_arg0))
def wqAt (c : Dev nD) : (cc0_stg1_0 : Ref sig .tc).ty.Contents (Elt F) := (win0_1.blk (0 : Fin 1)).view.read (Elt F) (m ((c : Thread nD τ).loc main_arg1))
def woAt (c : Dev nD) : (cc0_stg2_0 : Ref sig .tc).ty.Contents (Elt F) := (win0_2.blk (0 : Fin 1)).view.read (Elt F) (m ((c : Thread nD τ).loc main_arg4))
def wkAt (c : Dev nD) : (cc0_stg3_0 : Ref sig .tc).ty.Contents (Elt F) := (win0_3.blk (0 : Fin 1)).view.read (Elt F) (m ((c : Thread nD τ).loc main_arg2))
def wvAt (c : Dev nD) : (cc0_stg4_0 : Ref sig .tc).ty.Contents (Elt F) := (win0_4.blk (0 : Fin 1)).view.read (Elt F) (m ((c : Thread nD τ).loc main_arg3))

/-- The pieces device `c` sends. -/
def SBm (c : Dev nD) : Pieces F := sendT (xAt m c) (wqAt m c) (wkAt m c) (wvAt m c) (woAt m c)

/-! ## What the body starts from and what it leaves -/

/-- The tokens of the duties device `c` pays: its signals, its scatter copies, its gather copies. -/
def payToks (c : Dev nD) : sProp 𝕄 :=
  iprop((bigSep Finset.univ fun j : Fin 32 => dutyTok ER (cellAt j 0) 0 c) ∗ sendToks c ∗ gatherToks c)
/-- What is device `c`'s alone: its cells' positions, and those tokens. -/
def linear (c : Dev nD) : sProp 𝕄 :=
  iprop((bigSep Finset.univ fun k : Fin 5 => atPos ER (kcell (c, k)) 0 ∅ 0) ∗ payToks c)
/-- The records every device shares: every cell's invariant and that every cell reached its first round. -/
def shared (K : Dev nD × Fin 5 → ℕ) : sProp 𝕄 :=
  iprop((bigSep Finset.univ fun ck : Dev nD × Fin 5 => cellInv ER (sched (SBm m)) (K ck) (kcell ck))
    ∗ (bigSep Finset.univ fun ck : Dev nD × Fin 5 => reached ER (kcell ck) 0))
instance shared_persistent (K : Dev nD × Fin 5 → ℕ) : BI.Persistent (shared m K) := by unfold shared; infer_instance
/-- What the launch's common step deals device `c`. -/
def dealt (c : Dev nD) : sProp 𝕄 := iprop(∃ K, shared m K ∗ linear c)
/-- The credit of the payments other devices owe device `c`. -/
def dues (c : Dev nD) : sProp 𝕄 :=
  iprop(cred (tallyAt (cellAt c 0) () (32 * amt 0))
    ∗ (bigSep Finset.univ fun _ : Fin 32 => cred (tallyAt (cellAt c 2) () N)) ∗ (bigSep Finset.univ fun _ : Fin 32 => cred (tallyAt (cellAt c 4) () N)))
def start (c : Dev nD) : sProp 𝕄 := iprop(dealt m c ∗ dues c ∗ levAts L lv)

/-- A buffer held whole at some contents. -/
abbrev held (c : Dev nD) (b : Ref sig .tc) : sProp 𝕄 := iprop(∃ f : Buf (Elt F) ((c : Thread nD τ).loc b), ((c : Thread nD τ).loc b) ↦{fullShare} f)
/-- The six scratch buffers. -/
def scratch (c : Dev nD) : sProp 𝕄 :=
  iprop(held c cc0_scratch0 ∗ held c cc0_scratch1 ∗ held c cc0_scratch2 ∗ held c cc0_scratch3 ∗ held c cc0_scratch4 ∗ held c cc0_scratch5)
def Φ₀ (c : Dev nD) : sProp 𝕄 := iprop(start m c ∗ scratch c)
def Φ₁ (c : Dev nD) : sProp 𝕄 := iprop(scratch c ∗ bigSep Finset.univ fun k : Fin 5 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wqAt m c
    | ⟨2, _⟩ => woAt m c
    | ⟨3, _⟩ => wkAt m c
    | ⟨4, _⟩ => wvAt m c
    | ⟨5, _⟩ => OUT (SBm m)
  Φ t := match t with
    | ⟨0, _⟩ => Φ₀ m c
    | ⟨_ + 1, _⟩ => Φ₁ c
  q _ := fullShare
  owed t := match t with
    | ⟨0, _⟩ => O₀
    | ⟨_ + 1, _⟩ => 0

/-! ## The obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

def bodyPost (c : Dev nD) : sProp 𝕄 :=
  iprop(Φ₁ c ∗ (dats m 0 c).owesAt () t0_0.succ ∗ stg c cc0_stg0_0 (xAt m c) ∗ stg c cc0_stg1_0 (wqAt m c) ∗ stg c cc0_stg2_0 (woAt m c)
    ∗ stg c cc0_stg3_0 (wkAt m c) ∗ stg c cc0_stg4_0 (wvAt m c) ∗ stg c cc0_stg5_0 (OUT (SBm m)))

section
variable {s : Shape} {e : EltTy} (M : Memref sig .tc .vmem s e) (c : Dev nD)

/-- A buffer held whole, its contents as stated where anything is stated. -/
theorem filled_of {P : M.view.ty.Idx → Prop} {f T : M.view.ty.Contents (Elt F)} (h : ∀ i, P i → f i = T i) :
    ((M.view.loc (c : Thread nD τ) ↦{fullShare} f) : sProp 𝕄) ⊢ filled M c Finset.univ P T := by
  unfold filled
  iintro Hx
  iexists f; isplitr
  · ipureintro; exact h
  · iexact Hx

/-- Held at known contents. -/
theorem stg_of {T : M.view.ty.Contents (Elt F)} :
    (inSt M c T : sProp 𝕄) ⊢ iprop(∃ f : M.view.ty.Contents (Elt F), ⌜f = T⌝ ∗ (M.view.loc (c : Thread nD τ)) ↦{fullShare} f) := by
  unfold inSt filled
  iintro ⟨%f, %hf, Hx⟩
  iexists f; isplitr
  · ipureintro; exact funext fun i => hf i trivial
  · iexact Hx

/-- Held at some contents. -/
theorem held_of {P : M.view.ty.Idx → Prop} {T : M.view.ty.Contents (Elt F)} :
    (filled M c Finset.univ P T : sProp 𝕄) ⊢ iprop(∃ f : M.view.ty.Contents (Elt F), (M.view.loc (c : Thread nD τ)) ↦{fullShare} f) := by
  unfold filled
  iintro ⟨%f, -, Hx⟩
  iexists f; iexact Hx

/-- An operand's staging buffer after its fetch. -/
theorem in_of {α : Type} {B : α → M.view.ty.Contents (Elt F)} {T : M.view.ty.Contents (Elt F)} (h : ∀ d, B d = T) :
    (iprop(∃ d, ∃ f : M.view.ty.Contents (Elt F), ⌜f = B d⌝ ∗ (M.view.loc (c : Thread nD τ)) ↦{fullShare} f) : sProp 𝕄) ⊢ inSt M c T := by
  iintro ⟨%d, %f, %hf, Hx⟩
  obtain rfl : f = T := hf.trans (h d)
  iapply (filled_of M c (fun _ _ => rfl)) $$ Hx

end

theorem before_0 (c : Dev nD) (d) : (dats m 0 c).before (0 : Fin 6) t0_0 d = xAt m c := by unfold Dat.before; rw [if_pos (fetch0_0 t0_0)]; rfl
theorem before_1 (c : Dev nD) (d) : (dats m 0 c).before (1 : Fin 6) t0_0 d = wqAt m c := by unfold Dat.before; rw [if_pos (fetch0_1 t0_0)]; rfl
theorem before_2 (c : Dev nD) (d) : (dats m 0 c).before (2 : Fin 6) t0_0 d = woAt m c := by unfold Dat.before; rw [if_pos (fetch0_2 t0_0)]; rfl
theorem before_3 (c : Dev nD) (d) : (dats m 0 c).before (3 : Fin 6) t0_0 d = wkAt m c := by unfold Dat.before; rw [if_pos (fetch0_3 t0_0)]; rfl
theorem before_4 (c : Dev nD) (d) : (dats m 0 c).before (4 : Fin 6) t0_0 d = wvAt m c := by unfold Dat.before; rw [if_pos (fetch0_4 t0_0)]; rfl

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The signals' state at the start: the tokens, and the receive buffer and the result cut into what each signal hands over. -/
theorem sigSt_start (c : Dev nD) :
    iprop(owing (F := F) c O₀ ∗ (bigSep Finset.univ fun j : Fin 32 => dutyTok ER (cellAt j 0) 0 c) ∗ held c cc0_scratch4 ∗ held c cc0_stg5_0) ⊢ sigSt c 0 := by
  unfold sigSt O₀
  rw [ge_zero]
  simp only [bigSep_sep']
  iintro ⟨HO, Ht, ⟨%f, Hr⟩, ⟨%g, Ho⟩⟩
  isplitl [HO]; · iexact HO
  isplitl [Ht]; · iexact Ht
  isplitl [Hr]
  · iapply (show (((c : Thread nD τ).loc cc0_scratch4 ↦{fullShare} f) : sProp 𝕄) ⊢ bigSep Finset.univ fun j => iprop(∃ f, rsPts c j f) from
      (Entails.of_eq (rs_blocks c f)).trans (bigSep_mono fun j _ => show (rsPts c j f : sProp 𝕄) ⊢ iprop(∃ f, rsPts c j f) by iintro H; iexists f; iexact H)) $$ Hr
  · iapply (show (((c : Thread nD τ).loc cc0_stg5_0 ↦{fullShare} g) : sProp 𝕄) ⊢ bigSep Finset.univ fun j => iprop(∃ f, outPts c j f) from
      (Entails.of_eq (out_blocks c g)).trans (bigSep_mono fun j _ => show (outPts c j g : sProp 𝕄) ⊢ iprop(∃ f, outPts c j f) by iintro H; iexists g; iexact H)) $$ Ho

/-- The launch's share of a device is what its body starts from. -/
theorem body_start (c : Dev nD) :
    bodyPre m c ⊢ iprop(∃ K, bodyIn (SBm m) K (xAt m c) (wqAt m c) (wkAt m c) (wvAt m c) (woAt m c) c) := by
  unfold bodyPre Φ₀ start dealt shared linear payToks dues scratch bodyIn records Dat.owesAt Pipeline.owesWithin
  rw [bigSep_fin5, show (dats m 0 c).owed t0_0.castSucc = O₀ from rfl]
  iintro ⟨⟨⟨⟨%K, ⟨HI, Hre⟩, ⟨Ha0, Ha1, Ha2, Ha3, Ha4⟩, Htb, Hts, Htg⟩, ⟨Hc0, Hc2, Hc4⟩, Hlev⟩, ⟨%f0, Hs0⟩, ⟨%f1, Hs1⟩, ⟨%f2, Hs2⟩, ⟨%f3, Hs3⟩, Hs4, ⟨%f5, Hs5⟩⟩,
    ⟨%W, -, HO⟩, Hx, Hq, Ho, Hk, Hv, ⟨%d, %g, -, Hout⟩⟩
  iexists K
  isplitl [HI Hre Hlev]
  · isplitl [HI]; · iexact HI
    isplitl [Hre]; · iexact Hre
    iexact Hlev
  isplitl [HO Htb Hs4 Hout]
  · iapply (sigSt_start c)
    isplitl [HO]; · unfold owing; iexists W; iexact HO
    isplitl [Htb]; · iexact Htb
    isplitl [Hs4]; · iexact Hs4
    iexists g; iexact Hout
  isplitl [Hx]; · iapply (show iprop(∃ d, stg c cc0_stg0_0 ((dats m 0 c).before (0 : Fin 6) t0_0 d)) ⊢ inSt xM c (xAt m c) from in_of xM c (before_0 m c)) $$ Hx
  isplitl [Hq]; · iapply (show iprop(∃ d, stg c cc0_stg1_0 ((dats m 0 c).before (1 : Fin 6) t0_0 d)) ⊢ inSt wqM c (wqAt m c) from in_of wqM c (before_1 m c)) $$ Hq
  isplitl [Hk]; · iapply (show iprop(∃ d, stg c cc0_stg3_0 ((dats m 0 c).before (3 : Fin 6) t0_0 d)) ⊢ inSt wkM c (wkAt m c) from in_of wkM c (before_3 m c)) $$ Hk
  isplitl [Hv]; · iapply (show iprop(∃ d, stg c cc0_stg4_0 ((dats m 0 c).before (4 : Fin 6) t0_0 d)) ⊢ inSt wvM c (wvAt m c) from in_of wvM c (before_4 m c)) $$ Hv
  isplitl [Ho]; · iapply (show iprop(∃ d, stg c cc0_stg2_0 ((dats m 0 c).before (2 : Fin 6) t0_0 d)) ⊢ inSt woM c (woAt m c) from in_of woM c (before_2 m c)) $$ Ho
  isplitl [Hs2]; · unfold scSt; iapply (filled_of scM c (f := f2) (fun i h => absurd h (Nat.not_lt_zero _))) $$ Hs2
  isplitl [Hs0]; · unfold atSt; iapply (filled_of atM c (f := f0) (fun i h => absurd h.2 (Nat.not_lt_zero _))) $$ Hs0
  isplitl [Hs1]; · unfold pjSt; iapply (filled_of pjM c (f := f1) (fun i h => h.1.elim)) $$ Hs1
  ihave ⟨Hd0, Hd1⟩ := (sdSt_start (xAt m c) (wqAt m c) (wkAt m c) (wvAt m c) (woAt m c) c f3) $$ Hs3
  isplitl [Hd0]; · iexact Hd0
  isplitl [Hd1]; · iexact Hd1
  isplitl [Hs5]; · unfold agSt; iapply (filled_of agM c (f := f5) (fun i h => h.elim)) $$ Hs5
  isplitl [Ha0]; · iexact Ha0
  isplitl [Hc0]; · iexact Hc0
  isplitl [Hts]; · iexact Hts
  isplitl [Htg]; · iexact Htg
  isplitl [Ha1]; · iexact Ha1
  isplitl [Ha2 Hc2]
  · iapply (waitSt_start (SBm m) c 2); isplitl [Ha2]; · iexact Ha2
    iexact Hc2
  isplitl [Ha3]; · iexact Ha3
  iapply (waitSt_start (SBm m) c 4); isplitl [Ha4]; · iexact Ha4
  iexact Hc4

/-- A device's five cells, their round done, close. -/
theorem cells_end (K : Dev nD × Fin 5 → ℕ) (c : Dev nD) :
    iprop(records (SBm m) K ∗ bigSep Finset.univ fun k : Fin 5 => atPos ER (kcell (c, k)) 1 ∅ 0)
      ⊢ |={Set.univ}=> bigSep Finset.univ fun k : Fin 5 => (semVal (kcell (c, k)) 0 : sProp 𝕄) := by
  have h1 : iprop(records (SBm m) K ∗ bigSep Finset.univ fun k : Fin 5 => (atPos ER (kcell (c, k)) 1 ∅ 0 : sProp 𝕄))
      ⊢ bigSep Finset.univ fun k : Fin 5 => iprop(cellInv ER (sched (SBm m)) (K (c, k)) (kcell (c, k)) ∗ atPos ER (kcell (c, k)) 1 ∅ 0) := by
    refine (sep_mono_left (BI.bigSep_of_persistent (Finset.univ : Finset (Fin 5)) (records (SBm m) K))).trans ?_
    rw [← bigSep_sep']
    exact bigSep_mono fun k _ => sep_mono_left (inv_at (SBm m) K c k)
  exact h1.trans (Rounds.cells_close ER (sched (SBm m)) Finset.univ (fun k => kcell (c, k)) (fun k => K (c, k)) (fun _ _ => Set.mem_univ _) (fun _ _ h => h)
    (fun _ => 1) (fun k _ => duties_later (SBm m) (kcell (c, k))))

/-- What the body ends with is, its cells closed, what the launch expects back. -/
theorem body_end (K : Dev nD × Fin 5 → ℕ) (c : Dev nD) :
    bodyOut (SBm m) K (xAt m c) (wqAt m c) (wkAt m c) (wvAt m c) (woAt m c) c ⊢ |={Set.univ}=> bodyPost m c := by
  unfold bodyOut bodyPost Φ₁ scratch Dat.owesAt Pipeline.owesWithin
  rw [show (dats m 0 c).owed t0_0.succ = 0 from rfl]
  iintro ⟨Hr, HO, H3, H1, H4, Hrs, Ha2, Ha0, Hx, Hq, Hk, Hv, Ho, Hsc, Hat, Hpj⟩
  ihave ⟨Ha3, Hs5⟩ := (done_ag (SBm m) c) $$ H3
  ihave ⟨Ha1, Hs3⟩ := (done_sb (SBm m) c) $$ H1
  ihave ⟨Ha4, Hout⟩ := (done_out (SBm m) c) $$ H4
  imod (cells_end m K c) $$ [Hr Ha0 Ha1 Ha2 Ha3 Ha4] with Hz
  · isplitl [Hr]; · iexact Hr
    rw [bigSep_fin5]
    isplitl [Ha0]; · iexact Ha0
    isplitl [Ha1]; · iexact Ha1
    isplitl [Ha2]; · iexact Ha2
    isplitl [Ha3]; · iexact Ha3
    iexact Ha4
  imodintro
  isplitl [Hsc Hat Hpj Hrs Hs3 Hs5 Hz]
  · isplitr [Hz]
    · isplitl [Hat]; · unfold atSt; iapply (held_of atM c : _ ⊢ held c cc0_scratch0) $$ Hat
      isplitl [Hpj]; · unfold pjSt; iapply (held_of pjM c : _ ⊢ held c cc0_scratch1) $$ Hpj
      isplitl [Hsc]; · unfold scSt; iapply (held_of scM c : _ ⊢ held c cc0_scratch2) $$ Hsc
      isplitl [Hs3]; · iexists (SBm m c); iexact Hs3
      isplitl [Hrs]; · iapply (held_of rsM c : _ ⊢ held c cc0_scratch4) $$ Hrs
      iexists (AG (SBm m) c); iexact Hs5
    · iexact Hz
  isplitl [HO]
  · unfold owing
    icases HO with ⟨%W, HO⟩
    iexists W; isplitr
    · ipureintro; exact fun _ _ => Or.inl trivial
    iexact HO
  isplitl [Hx]; · iapply (show inSt xM c (xAt m c) ⊢ stg c cc0_stg0_0 (xAt m c) from stg_of xM c) $$ Hx
  isplitl [Hq]; · iapply (show inSt wqM c (wqAt m c) ⊢ stg c cc0_stg1_0 (wqAt m c) from stg_of wqM c) $$ Hq
  isplitl [Ho]; · iapply (show inSt woM c (woAt m c) ⊢ stg c cc0_stg2_0 (woAt m c) from stg_of woM c) $$ Ho
  isplitl [Hk]; · iapply (show inSt wkM c (wkAt m c) ⊢ stg c cc0_stg3_0 (wkAt m c) from stg_of wkM c) $$ Hk
  isplitl [Hv]; · iapply (show inSt wvM c (wvAt m c) ⊢ stg c cc0_stg4_0 (wvAt m c) from stg_of wvM c) $$ Hv
  iexists (OUT (SBm m)); isplitr; · (ipureintro; rfl)
  iexact Hout

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxHeartbeats 1000000 in
/-- The body takes what it is given at the one point of the grid to what the pipeline expects after it. -/
theorem body_obligation (c : Dev nD) : BodyObligation (dats m 0 c) (defs₀ (F := F)) 𝒱₀ () Set.univ := fun t => by
  rw [show t = t0_0 from fin_N0 t]
  rw [bigSep_W, bigSep_W]
  simp only [owns_whole_eq]
  show bodyPre m c ⊢ WP c (atArgs (cc0_body (F := F))) fun _ => bodyPost m c
  refine (body_start m c).trans ?_
  iintro ⟨%K, H⟩
  unfold WP
  iapply (Sem.wp_fupd _ _ _ _ _)
  iapply (body_run (SBm m) K (xAt m c) (wqAt m c) (wkAt m c) (wvAt m c) (woAt m c) c rfl (Q := fun _ => iprop(|={Set.univ}=> bodyPost m c)) (body_end m K c)) $$ H

end Cert.KernelIdealProof
end
-- ==== Proof.Run.lean ====
/-
# The launch

What the launch hands each device, and the run of the whole program: from any memory with zero counters, every weakly fair
execution ends with the result's contents on every device, the operands as they were, and every counter zero.
-/
module

public import proofs.«01_k».proof.Proof.Start
public import Idealize.ShloMosaic.Lib.Pipeline.CollectiveSegs

@[expose] public section

set_option maxRecDepth 65536

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) :=
  fun a b h => Prod.ext (cellAt_eq_iff.mp h).1 (cellAt_eq_iff.mp h).2
/-- Every device's five cells. -/
def allCells : Finset (GSem nD τ sig) := Finset.univ.map ⟨kcell, kcell_injective⟩
/-- Each cell has a duty for each device. -/
abbrev tokOf (x : (Dev nD × Fin 5) × Fin 32) : GSem nD τ sig × ℕ × Fin 32 := (kcell x.1, 0, x.2)
theorem tokOf_injective : Function.Injective tokOf := fun a b h =>
  Prod.ext (kcell_injective (congrArg Prod.fst h)) (congrArg (fun x : GSem nD τ sig × ℕ × Fin 32 => x.2.2) h)
def allToks : Finset (GSem nD τ sig × ℕ × Fin 32) := Finset.univ.map ⟨tokOf, tokOf_injective⟩

/-- The ghost state at launch: the pipeline's and the kernel's. -/
def u₀ : UU :=
  (initOf (Pipeline.cells cfgs cellOf_inj) (Pipeline.launchToks cfgs cellOf_inj), initOf allCells allToks)

/-- The tokens of the duties at device `c`'s own cells. -/
def toks (c : Dev nD) : sProp 𝕄 := bigSep Finset.univ fun k : Fin 5 => bigSep Finset.univ fun j : Fin 32 => dutyTok ER (cellAt c k) 0 j

/-- What the ghost state deals device `c`. -/
def G (c : Dev nD) : sProp 𝕄 :=
  iprop((bigSep Finset.univ fun k : Fin 5 => roundState ER (sched (SBm m)) (kcell (c, k)) 0)
    ∗ (bigSep Finset.univ fun k : Fin 5 => iprop(atPos ER (kcell (c, k)) 0 ∅ 0 ∗ reached ER (kcell (c, k)) 0)) ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 5 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (sched (SBm m)) allCells allToks) $$ HX with ⟨Hst, Hr, Hat, Htok⟩
  imodintro
  ihave Hst' := (Entails.of_eq (hX fun g => roundState ER (sched (SBm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's four semaphores, and the barrier's. -/
theorem ownSems0_eq (c : Dev nD) : (Pipeline.ownSems0 (Ix := Unit) (Name := ℕ) (U := UU) (Lvl := ℕ) (Val := Elt F) (τ := τ) osem c : sProp 𝕄)
    = iprop(semVal (cellAt c 1) 0 ∗ semVal (cellAt c 2) 0 ∗ semVal (cellAt c 3) 0 ∗ semVal (cellAt c 4) 0) := by
  rw [Pipeline.ownSems0_eq_of_list c osem [0, 1, 2, 3] (by decide) (by decide)]; rfl
theorem unscopedSems0_eq (c : Dev nD) : (unscopedSems0 c : sProp 𝕄) = semVal (cellAt c 0) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  exact sep_symm

/-- One device's cells opened: each gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (SBm m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched (SBm m)) (kcell (c, k)) 0)
      ⊢ (|={Set.univ}=> bigSep Finset.univ fun k => iprop(∃ κ : ℕ, cellInv ER (sched (SBm m)) κ (kcell (c, k))) : sProp 𝕄) from by
        rw [← bigSep_sep']
        exact (bigSep_mono fun k _ => (Rounds.body_intro ER (sched (SBm m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over pairs of devices, the pair exchanged. -/
theorem bigSep_swap (Φ : Dev nD → Fin 32 → sProp 𝕄) :
    (bigSep Finset.univ fun c : Dev nD => bigSep Finset.univ fun j : Fin 32 => Φ c j) = bigSep Finset.univ fun c : Dev nD => bigSep Finset.univ fun j : Fin 32 => Φ j c := by
  rw [← bigSep_univ_prod (fun x : Dev nD × Fin 32 => Φ x.1 x.2), ← bigSep_univ_prod (fun x : Dev nD × Fin 32 => Φ x.2 x.1)]
  exact bigSep_univ_equiv (Equiv.prodComm _ _) _

/-- The tokens dealt to the devices that pay them. -/
theorem toks_around : (bigSep Finset.univ fun c : Dev nD => (toks c : sProp 𝕄)) ⊢ bigSep Finset.univ fun c : Dev nD => payToks c := by
  unfold toks payToks sendToks gatherToks
  simp only [bigSep_fin5, bigSep_sep']
  rw [bigSep_swap fun c j => dutyTok ER (cellAt j 0) 0 c, bigSep_swap fun c j => dutyTok ER (cellAt j 2) 0 c,
    bigSep_swap fun c j => dutyTok ER (cellAt j 4) 0 c]
  show iprop((bigSep Finset.univ fun c : Dev nD => bigSep Finset.univ (dutyTok ER (cellAt c 0) 0))
      ∗ (bigSep Finset.univ fun c : Dev nD => bigSep Finset.univ (dutyTok ER (cellAt c 1) 0)) ∗ (bigSep Finset.univ fun c : Dev nD => bigSep Finset.univ (dutyTok ER (cellAt c 2) 0))
      ∗ (bigSep Finset.univ fun c : Dev nD => bigSep Finset.univ (dutyTok ER (cellAt c 3) 0)) ∗ (bigSep Finset.univ fun c : Dev nD => bigSep Finset.univ (dutyTok ER (cellAt c 4) 0)))
    ⊢ iprop((bigSep Finset.univ fun c : Dev nD => bigSep Finset.univ (dutyTok ER (cellAt c 0) 0))
      ∗ ((bigSep Finset.univ fun c : Dev nD => bigSep Finset.univ (dutyTok ER (cellAt c 1) 0)) ∗ (bigSep Finset.univ fun c : Dev nD => bigSep Finset.univ (dutyTok ER (cellAt c 2) 0)))
      ∗ (bigSep Finset.univ fun c : Dev nD => bigSep Finset.univ (dutyTok ER (cellAt c 3) 0)) ∗ (bigSep Finset.univ fun c : Dev nD => bigSep Finset.univ (dutyTok ER (cellAt c 4) 0)))
  exact Entails.of_eq (by ac_rfl)

/-- Every device's invariants and tokens, shared and dealt. -/
theorem regroup :
    (bigSep Finset.univ fun c : Dev nD => iprop((bigSep Finset.univ fun k => iprop(∃ κ : ℕ, cellInv ER (sched (SBm m)) κ (kcell (c, k))))
          ∗ (bigSep Finset.univ fun k => iprop(atPos ER (kcell (c, k)) 0 ∅ 0 ∗ reached ER (kcell (c, k)) 0)) ∗ toks c) : sProp 𝕄)
      ⊢ bigSep Finset.univ (dealt m) := by
  rw [bigSep_sep', bigSep_sep', ← bigSep_univ_prod (fun ck : Dev nD × Fin 5 => iprop(∃ κ : ℕ, cellInv ER (sched (SBm m)) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched (SBm m)) κ (kcell ck) : sProp 𝕄))) $$ HI
  icases HK with ⟨%K, #HI⟩
  ihave Htk := (toks_around (F := F)) $$ Htok
  have hd : iprop(shared m K ∗ bigSep Finset.univ fun c : Dev nD => (linear c : sProp 𝕄)) ⊢ bigSep Finset.univ (dealt m) := by
    refine (sep_mono_left (BI.bigSep_of_persistent (Finset.univ : Finset (Dev nD)) (shared m K))).trans ?_
    rw [← bigSep_sep']
    exact bigSep_mono fun c _ => show iprop(shared m K ∗ linear c) ⊢ dealt m c by unfold dealt; iintro H; iexists K; iexact H
  iapply hd
  isplitr
  · unfold shared; isplitl; · iexact HI
    iexact HR
  · unfold linear; rw [bigSep_sep']
    isplitl [Hat]; · iexact Hat
    iexact Htk

/-- The step all devices take together at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The launch's credit -/

/-- What a device owes device `c`'s cell `k`. -/
theorem dueTo_cell (k l : Fin 5) (c : Dev nD) : dueTo k 0 (cellAt c l) () = if k = l then amt k else 0 := by
  rw [dueTo_apply, ge_zero]
  by_cases h : k = l
  · subst h
    rw [if_pos rfl, Finset.sum_eq_single c (fun j _ hj => by rw [tallyAt_apply, if_neg fun h' => hj (cellAt_eq_iff.mp h'.1).1.symm])
      (fun h => absurd (Finset.mem_univ _) h), tallyAt_apply, if_pos ⟨rfl, rfl⟩]
  · rw [if_neg h]
    exact Finset.sum_eq_zero fun j _ => by rw [tallyAt_apply, if_neg fun h' => h (cellAt_eq_iff.mp h'.1).2.symm]

theorem O₀_cell (k : Fin 5) (hk : k = 0 ∨ k = 2 ∨ k = 4) (c : Dev nD) : O₀ (cellAt c k) () = amt k := by
  unfold O₀
  rw [Pi.add_apply, Finsupp.add_apply, Pi.add_apply, Finsupp.add_apply, dueTo_cell, dueTo_cell, dueTo_cell]
  rcases hk with rfl | rfl | rfl <;> simp

/-- All 32 devices' dues to a cell. -/
theorem launch_cell (k : Fin 5) (hk : k = 0 ∨ k = 2 ∨ k = 4) (c : Dev nD) :
    tallyOn (cellAt c k) (launchCredit (Pipeline.owing fun _ : Dev nD => O₀) 0 (cellAt c k)) = (tallyAt (cellAt c k) () (32 * amt k) : CellTallies nD τ sig Unit) := by
  unfold tallyAt; refine congrArg _ (Finsupp.ext fun u => ?_); cases u
  rw [Pipeline.launchCredit_owing, Finsupp.single_eq_same, Finset.sum_congr rfl fun d _ => O₀_cell k hk c, Finset.sum_const, Finset.card_univ,
    Fintype.card_fin, smul_eq_mul]

/-- Credit for `n` payments is `n` credits. -/
theorem cred_split (g : GSem nD τ sig) (a : ℕ) (S : Finset (Fin 32)) :
    (cred (tallyAt g () (S.card * a)) : sProp 𝕄) ⊢ bigSep S fun _ => cred (tallyAt g () a) := by
  induction S using Finset.induction_on with
  | empty => rw [bigSep_empty]; iintro -; iempintro
  | insert j S hj ih =>
    rw [Finset.card_insert_of_notMem hj, BI.bigSep_insert hj, Nat.succ_mul, Nat.add_comm, ← tallyAt_add]
    exact (cred_add _ _).1.trans (sep_mono_right ih)

theorem creds (c : Dev nD) : (Pipeline.launchCred (fun _ : Dev nD => O₀) c : sProp 𝕄) ⊢ dues c := by
  unfold Pipeline.launchCred dues
  have hs (k : Fin 5) : (cred (tallyAt (cellAt c k) () (32 * N)) : sProp 𝕄) ⊢ bigSep Finset.univ fun _ : Fin 32 => cred (tallyAt (cellAt c k) () N) := by
    have := cred_split (F := F) (cellAt c k) N Finset.univ
    rwa [Finset.card_univ, Fintype.card_fin] at this
  rw [bigSep_univ_at _ (csem 0), launch_cell 0 (Or.inl rfl) c]
  refine sep_mono_right ?_
  have hsub : ({csem 2, csem 4} : Finset (SemLoc sig)) ⊆ Finset.univ.erase (csem 0) := fun x hx => by
    rcases Finset.mem_insert.mp hx with rfl | hx
    · exact Finset.mem_erase.mpr ⟨csem_ne (by decide), Finset.mem_univ _⟩
    · rw [Finset.mem_singleton.mp hx]; exact Finset.mem_erase.mpr ⟨csem_ne (by decide), Finset.mem_univ _⟩
  refine (bigSep_subset hsub).trans ?_
  rw [BI.bigSep_insert (fun h => csem_ne (by decide) (Finset.mem_singleton.mp h)), bigSep_singleton,
    launch_cell 2 (Or.inr (Or.inl rfl)) c, launch_cell 4 (Or.inr (Or.inr rfl)) c]
  exact BI.sep_mono (hs 2) (hs 4)

/-! ## The run -/

theorem start_intro (c : Dev nD) :
    iprop(Pipeline.unscopedRestP Pipeline.Prefetch.none cfg0.spec c (fun b => m ((c : Thread nD τ).loc b)) ∗ levAts L lv
        ∗ Pipeline.launchCred (fun _ : Dev nD => O₀) c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  rw [bigSep_fin5]
  iintro ⟨Hr, Hz0, Hz⟩
  isplitl [Hz0]; · iexact Hz0
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m 0 c).arrAt w cfg0.N

/-- Every device's arrays are the final ones. -/
def AllFinal (s : MemSt nD τ sig (Elt F)) : Prop :=
  ∀ c : Dev nD, ∀ w : Fin cfg0.W, s.mem ((cfg0.win w).arr.view.loc (c : Thread nD τ)) = finalA m c w

/-- From any memory with zero counters and for any float values, every weakly fair execution of @main on the 32 devices ends,
    and each ends with every device's arrays the final ones and every semaphore counter zero. -/
theorem run_main : θ_run defs (onTc (τ := τ) (main (F := F))) ⟨m, fun _ => 0, ρ⟩ (fun r => AllFinal m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun _ => O₀) (howed₀ := fun _ => rfl) (howedN := fun _ => rfl)
    (L := L) (lv := lv) (hL := L_of_ne) (hwaits := waits m)
    (G := G m) (G' := dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array is as it was. -/
theorem finalA_in (c : Dev nD) (w : Fin cfg0.W) (hw : (cfg0.win w).isOut = false) :
    finalA m c w = m ((cfg0.win w).arr.view.loc (c : Thread nD τ)) :=
  (dats m 0 c).arrAt_in w hw _

end Cert.KernelIdealProof
end
-- ==== Proof.Frames.lean ====
/-
# The frames

Each program runs to the end with its arguments unchanged and every semaphore counter zero. The kernel over bit patterns and over
the extended reals has one text, so one run serves both.
-/
module

public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Defs

@[expose] public section

set_option maxRecDepth 65536

namespace Cert.KernelIdealProof

open Idealize.ShloMosaic Idealize.SL Idealize.SL.Sem

/-- The kernel's run keeps the arguments and ends with every counter zero. -/
theorem run_frame {F : FTy → Type} [FloatOps F] (m : (ℓ : Loc Cert.KernelIdeal.nD Cert.KernelIdeal.τ Cert.KernelIdeal.sig) → Buf (Elt F) ℓ)
    {s : MemSt Cert.KernelIdeal.nD Cert.KernelIdeal.τ Cert.KernelIdeal.sig (Elt F)} (h : AllFinal m s) (c : Dev Cert.KernelIdeal.nD) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c (0 : Fin 6)).trans (finalA_in m c (0 : Fin 6) rfl), (h c (1 : Fin 6)).trans (finalA_in m c (1 : Fin 6) rfl),
    (h c (3 : Fin 6)).trans (finalA_in m c (3 : Fin 6) rfl), (h c (4 : Fin 6)).trans (finalA_in m c (4 : Fin 6) rfl),
    (h c (2 : Fin 6)).trans (finalA_in m c (2 : Fin 6) rfl)⟩

theorem frame_kernelIdeal : Cert.quiescent_KernelIdeal := fun m ρ _ =>
  (θ_run Cert.KernelIdeal.defs _ _).mono (fun _ h => ⟨run_frame m h.1, h.2⟩) (run_main (F := Ideal) m ρ)

/-- The two texts of the kernel's table of bodies are one. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun x => ?_)
  fin_cases ℓ
  obtain ⟨t, s⟩ := x
  rfl

theorem defs_eq {F : FTy → Type} [FloatOps F] : Cert.Kernel.defs (F := F) = Cert.KernelIdeal.defs (F := F) := by
  unfold Cert.Kernel.defs Cert.KernelIdeal.defs
  rw [bodies_eq]
  rfl

theorem frame_kernel : Cert.quiescent_Kernel := fun m ρ _ => by
  rw [defs_eq]
  exact (θ_run Cert.KernelIdeal.defs _ _).mono (fun _ h => ⟨run_frame m h.1, h.2⟩) (run_main (F := Bits) m ρ)

/-- The reference has no semaphore. -/
theorem frame_reference : Cert.quiescent_ReferenceIdeal := fun m ρ _ =>
  (θ_run Cert.ReferenceIdeal.defs _ _).mono
    (fun r h => ⟨fun c => ⟨(h c).2.1, (h c).2.2.1, (h c).2.2.2.1, (h c).2.2.2.2.1, (h c).2.2.2.2.2⟩, Idealize.ShloMosaic.sem_eq_zero_of_no_sems (by decide) r.2⟩)
    (Cert.ReferenceIdeal.Value.run (F := Ideal) m ρ)

end Cert.KernelIdealProof
end
-- ==== Proof.Softmax.lean ====
/-
# One row of the attention, over the extended reals

The two programs compute a row of the attention in different orders. Both take the exponentials of the scores less their
largest. The kernel divides each by their sum and then weighs the values; the reference weighs the values and divides the
result, and carries two terms multiplied by 0 for the keys before the first. `row_eq` says that the two agree where the
scores are real numbers, whatever the values are. `score_eq` says that the scores agree, though the kernel scales the
input by 1/8 and the reference scales the scores.
-/
module

public import Idealize.ShloMosaic.PureOps.Ideal
public import Idealize.ShloMosaic.Lib.IdealHost

@[expose] public section

noncomputable section

namespace Cert.Softmax

open Idealize.ShloMosaic

/-! ## The constants -/

theorem negInf : Ideal.ofBits .f32 0xFF800000#32 = (⊥ : EReal) := by
  simp [Ideal.ofBits, Ideal.ieee]
theorem posInf : Ideal.ofBits .bf16 0x7F80#16 = (⊤ : EReal) := by
  simp [Ideal.ofBits, Ideal.ieee]
theorem eighth : Ideal.ofBits .f32 0x3E000000#32 = ((1 / 8 : ℝ) : EReal) := by
  simp [Ideal.ofBits, Ideal.ieee]
  rw [← EReal.coe_mul]; congr 1; norm_num
theorem eighth' : Ideal.ofBits .bf16 0x3E00#16 = ((1 / 8 : ℝ) : EReal) := by
  simp [Ideal.ofBits, Ideal.ieee]
  rw [← EReal.coe_mul]; congr 1; norm_num

/-! ## Sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a real number, not negative, goes into a sum of any extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ## A row -/

/-- One weight of the softmax of the row `s`, not yet divided: the largest score is subtracted before the exponential. -/
def weight {n : ℕ} (s : Fin n → EReal) (j : Fin n) : EReal := Ideal.exp (s j - Finset.univ.fold max (⊥ : EReal) s)

/-- The kernel's row: the weights, divided by their sum, times the values. -/
def rowK {n : ℕ} (s v : Fin n → EReal) : EReal := ∑ j, Ideal.div (weight s j) (∑ k, weight s k) * v j

/-- The largest of real scores is a real number. -/
theorem fold_max_real {n : ℕ} (hn : 0 < n) (s : Fin n → EReal) (hs : ∀ j, ∃ r : ℝ, s j = r) :
    ∃ M : ℝ, Finset.univ.fold max (⊥ : EReal) s = M := by
  have h1 : Finset.univ.fold max (⊥ : EReal) s ≠ ⊤ := by
    refine ne_of_lt ((Finset.fold_max_lt _).mpr ⟨bot_lt_top, fun j _ => ?_⟩)
    obtain ⟨r, hr⟩ := hs j
    rw [hr]; exact EReal.coe_lt_top r
  have h2 : Finset.univ.fold max (⊥ : EReal) s ≠ ⊥ := by
    refine ne_of_gt ((Finset.lt_fold_max _).mpr (Or.inr ⟨⟨0, hn⟩, Finset.mem_univ _, ?_⟩))
    obtain ⟨r, hr⟩ := hs ⟨0, hn⟩
    rw [hr]; exact EReal.bot_lt_coe r
  exact ⟨_, (EReal.coe_toReal h1 h2).symm⟩

/-- Over real scores the weights are positive real numbers. -/
theorem weight_real {n : ℕ} (hn : 0 < n) (s : Fin n → EReal) (hs : ∀ j, ∃ r : ℝ, s j = r) (j : Fin n) :
    ∃ r : ℝ, 0 < r ∧ weight s j = r := by
  obtain ⟨M, hM⟩ := fold_max_real hn s hs
  obtain ⟨r, hr⟩ := hs j
  refine ⟨Real.exp (r - M), Real.exp_pos _, ?_⟩
  unfold weight
  rw [hM, hr, ← EReal.coe_sub]
  rfl

/-- The reference's row is the kernel's, where the scores are real numbers: `a` and `b` are the terms that are multiplied
    by 0. -/
theorem row_eq {n : ℕ} (hn : 0 < n) (s v : Fin n → EReal) (a b : EReal) (hs : ∀ j, ∃ r : ℝ, s j = r) :
    Ideal.div (0 * a + ∑ j, v j * weight s j) (0 * b + ∑ j, weight s j) = rowK s v := by
  choose w hw hwe using weight_real hn s hs
  haveI : Nonempty (Fin n) := ⟨⟨0, hn⟩⟩
  have hL : 0 < ∑ j, w j := Finset.sum_pos (fun j _ => hw j) Finset.univ_nonempty
  have hsum : ∑ j, weight s j = ((∑ j, w j : ℝ) : EReal) := by
    rw [coe_sum]; exact Finset.sum_congr rfl fun j _ => hwe j
  have hne : ((∑ j, w j : ℝ) : EReal) ≠ 0 := by exact_mod_cast hL.ne'
  unfold rowK
  rw [zero_mul, zero_mul, zero_add, zero_add, hsum]
  simp only [Ideal.div, if_neg hne]
  rw [← EReal.coe_inv, sum_mul_coe _ _ (inv_nonneg.mpr hL.le)]
  refine Finset.sum_congr rfl fun j _ => ?_
  rw [mul_comm (v j), mul_assoc, mul_comm (v j), ← mul_assoc]

/-! ## The scores -/

/-- A score of real queries and keys is a real number, and it is the same whether the input or the score is scaled. -/
theorem score_eq {n k : ℕ} (x y : Fin n → EReal) (wq wk : Fin n → Fin k → EReal)
    (hx : ∀ e, ∃ r : ℝ, x e = r) (hy : ∀ e, ∃ r : ℝ, y e = r)
    (hq : ∀ e d, ∃ r : ℝ, wq e d = r) (hk : ∀ e d, ∃ r : ℝ, wk e d = r) :
    ∃ r : ℝ, (∑ d, (∑ e, x e * wq e d) * (∑ e, y e * wk e d)) * ((1 / 8 : ℝ) : EReal) = r
      ∧ ∑ d, (∑ e, (x e * ((1 / 8 : ℝ) : EReal)) * wq e d) * (∑ e, y e * wk e d) = r := by
  choose x' hx using hx
  choose y' hy using hy
  choose wq' hq using hq
  choose wk' hk using hk
  refine ⟨(∑ d, (∑ e, x' e * wq' e d) * (∑ e, y' e * wk' e d)) * (1 / 8), ?_, ?_⟩
  · simp only [hx, hy, hq, hk, ← EReal.coe_mul, ← coe_sum]
  · simp only [hx, hy, hq, hk, ← EReal.coe_mul, ← coe_sum]
    congr 1
    rw [Finset.sum_mul]
    refine Finset.sum_congr rfl fun d _ => ?_
    refine Eq.trans ?_ (mul_right_comm (G := ℝ) _ _ _)
    congr 1
    rw [Finset.sum_mul]
    exact Finset.sum_congr rfl fun e _ => mul_right_comm (G := ℝ) _ _ _

end Cert.Softmax
end
-- ==== Proof.KernelValue.lean ====
/-
# The kernel's arrays at an index

Over the extended reals, where a change of float format is the identity, each piece that a device computes is read at an
index as a sum over the inputs: the queries, keys and values, the scores, the softmax, the attention, the projection, the
pieces that are sent and the rows that are summed. `OUT_apply` is the whole: an element of the result is the sum over the
devices, and over each device's 512 columns, of the attention times the output weights.
-/
module

public import proofs.«01_k».proof.Proof.Contents
public import proofs.«01_k».proof.Proof.Softmax
public import Idealize.ShloMosaic.Lib.Pointwise
public import Idealize.ShloMosaic.Lib.IdealHost

@[expose] public section

set_option maxRecDepth 65536

noncomputable section

namespace Cert.KernelIdealProof

open Cert.KernelIdeal Cert.KernelIdeal.Gen
open Idealize.ShloMosaic

/-! ## The pieces a device computes, at an index -/

/-- Row `i` of batch `b`, among the 256 rows of both batches. -/
def rowAt (b : Fin 2) (i : Fin 128) : Fin 256 := ⟨128 * b.val + i.val, by omega⟩
/-- Column `d` of head `h`, among the device's 512 columns. -/
def colAt (h : Fin 8) (d : Fin 64) : Fin 512 := ⟨64 * h.val + d.val, by omega⟩

theorem pay2_apply (X : FVec Ideal S2x128x512 .bf16) (W : FVec Ideal S512x512 .bf16) (b : Fin 2) (i : Fin 128) (n : Fin 512) :
    k0_pay2 (F := Ideal) X W (ix2 (rowAt b i) n) =
      ∑ e : Fin 512, (X (ix3 b i e) * Ideal.ofBits .bf16 0x3E00#16) * W (ix2 e n) := by
  unfold rowAt
  pointwise [k0_pay2, k0_pay1]

theorem pay3_apply (X : FVec Ideal S2x128x512 .bf16) (W : FVec Ideal S512x512 .bf16) (b : Fin 2) (i : Fin 128) (n : Fin 512) :
    k0_pay3 (F := Ideal) (k0_pay1 X) W (ix2 (rowAt b i) n) = ∑ e : Fin 512, X (ix3 b i e) * W (ix2 e n) := by
  unfold rowAt
  pointwise [k0_pay3, k0_pay1]

theorem pay4_apply (X : FVec Ideal S2x128x512 .bf16) (W : FVec Ideal S512x512 .bf16) (b : Fin 2) (i : Fin 128) (n : Fin 512) :
    k0_pay4 (F := Ideal) (k0_pay1 X) W (ix2 (rowAt b i) n) = ∑ e : Fin 512, X (ix3 b i e) * W (ix2 e n) := by
  unfold rowAt
  pointwise [k0_pay4, k0_pay1]

theorem pay5_eq (W : FVec Ideal S512x512 .bf16) (j n : Fin 512) : k0_pay5 (F := Ideal) W (ix2 j n) = W (ix2 j n) := by
  pointwise [k0_pay5]

theorem scorePay_apply (b : Fin 2) (h : Fin 8) (q k : FVec Ideal S256x512 .bf16) (i j : Fin 128) :
    scorePay b h q k (ix3 0 i j) = ∑ d : Fin 64, q (ix2 (rowAt b i) (colAt h d)) * k (ix2 (rowAt b j) (colAt h d)) := by
  unfold scorePay rowAt colAt
  pointwise []

theorem attnPay_apply (b : Fin 2) (h : Fin 8) (p : FVec Ideal S8x128x128 .bf16) (v : FVec Ideal S256x512 .bf16) (i : Fin 128)
    (d : Fin 64) :
    attnPay b h p v (ix3 0 i d) = ∑ j : Fin 128, p (ix3 h i j) * v (ix2 (rowAt b j) (colAt h d)) := by
  unfold attnPay rowAt colAt
  pointwise []

theorem pay15_apply (s : FVec Ideal S8x128x128 .f32) (h : Fin 8) (i j : Fin 128) :
    k0_pay15 (F := Ideal) (k0_pay14 s) (ix3 h i j) =
      Ideal.div (Softmax.weight (fun k => s (ix3 h i k)) j) (∑ k : Fin 128, Softmax.weight (fun k => s (ix3 h i k)) k) := by
  unfold Softmax.weight
  rw [← Softmax.negInf]
  pointwise [k0_pay15, k0_pay14]

theorem pay25_apply (w : FVec Ideal S512x512 .bf16) (a : FVec Ideal S1x128x512 .bf16) (i : Fin 128) (n : Fin 512) :
    k0_pay25 (F := Ideal) w a (ix3 0 i n) = ∑ C : Fin 512, a (ix3 0 i C) * w (ix2 C n) := by
  pointwise [k0_pay25]

theorem pay26_apply (a : FVec Ideal S1x128x512 .f32) (g : Fin 16) (r : Fin 8) (n : Fin 512) :
    k0_pay26 (F := Ideal) a (ix3 g r n) = a (ix3 0 ⟨g.val * 8 + r.val, by omega⟩ n) := by
  pointwise [k0_pay26]

theorem pay50_apply (a : FVec Ideal S32x8x512 .bf16) (r : Fin 8) (n : Fin 512) :
    k0_pay50 (F := Ideal) a (ix2 r n) = ∑ c : Fin 32, a (ix3 c r n) := by
  pointwise [k0_pay50]

/-! ## The arrays a device fills -/

section Arrays
variable (X : FVec Ideal S2x128x512 .bf16) (WQ WK WV WO : FVec Ideal S512x512 .bf16)

/-- A score of head `h` on batch `b`: query `i` against key `j`, the input scaled by 1/8 for the query. -/
def scoreK (b : Fin 2) (h : Fin 8) (i j : Fin 128) : EReal :=
  ∑ d : Fin 64, (∑ e : Fin 512, (X (ix3 b i e) * ((1 / 8 : ℝ) : EReal)) * WQ (ix2 e (colAt h d)))
    * (∑ e : Fin 512, X (ix3 b j e) * WK (ix2 e (colAt h d)))

theorem scoreT_apply (b : Fin 2) (h : Fin 8) (i j : Fin 128) :
    scoreT (F := Ideal) X WQ WK b (ix3 h i j) = scoreK X WQ WK b h i j := by
  show scorePay (F := Ideal) b h (qT (F := Ideal) X WQ) (kT (F := Ideal) X WK) (ValueIdx.ix3 0 i j) = _
  rw [← ix3_eq_valueIdx, scorePay_apply]
  unfold scoreK qT kT
  refine Finset.sum_congr rfl fun d _ => ?_
  rw [pay2_apply, pay3_apply, Softmax.eighth']

/-- The attention of batch `b` at row `i` and column `C` of the device's 512. -/
def attnK (b : Fin 2) (i : Fin 128) (C : Fin 512) : EReal :=
  Softmax.rowK (fun j => scoreK X WQ WK b (headOf C) i j) (fun j => ∑ e : Fin 512, X (ix3 b j e) * WV (ix2 e C))

theorem colAt_head (C : Fin 512) : colAt (headOf C) (colOf C) = C := by
  apply Fin.ext; unfold colAt headOf colOf; show 64 * (C.val / 64) + C.val % 64 = C.val; omega

theorem attnT_apply (b : Fin 2) (i : Fin 128) (C : Fin 512) :
    attnT (F := Ideal) X WQ WK WV (ix3 b i C) = attnK X WQ WK WV b i C := by
  show attnPay (F := Ideal) b (headOf C) (probT (F := Ideal) X WQ WK b) (vT (F := Ideal) X WV) (ValueIdx.ix3 0 i (colOf C)) = _
  rw [← ix3_eq_valueIdx, attnPay_apply]
  unfold attnK Softmax.rowK probT vT
  refine Finset.sum_congr rfl fun j _ => ?_
  rw [pay15_apply, colAt_head, pay4_apply]
  simp only [scoreT_apply]

theorem projT_apply (b : Fin 2) (i : Fin 128) (n : Fin 512) :
    projT (F := Ideal) X WQ WK WV WO (ix3 b i n) = ∑ C : Fin 512, attnK X WQ WK WV b i C * WO (ix2 C n) := by
  show k0_pay25 (F := Ideal) (woT WO) (batch b (attnT X WQ WK WV)) (ValueIdx.ix3 0 i n) = _
  rw [← ix3_eq_valueIdx, pay25_apply]
  unfold woT
  refine Finset.sum_congr rfl fun C _ => ?_
  rw [pay5_eq]
  refine congrArg (· * _) ?_
  show attnT (F := Ideal) X WQ WK WV (ValueIdx.ix3 b i C) = _
  rw [← ix3_eq_valueIdx, attnT_apply]

theorem sendT_apply (g : Fin 32) (r : Fin 8) (n : Fin 512) :
    sendT (F := Ideal) X WQ WK WV WO (ix3 g r n) =
      ∑ C : Fin 512, attnK X WQ WK WV (halfOf g) ⟨(inHalf g).val * 8 + r.val, by omega⟩ C * WO (ix2 C n) := by
  show k0_pay26 (F := Ideal) (batch (halfOf g) (projT X WQ WK WV WO)) (ValueIdx.ix3 (inHalf g) r n) = _
  rw [← ix3_eq_valueIdx, pay26_apply]
  show projT (F := Ideal) X WQ WK WV WO (ValueIdx.ix3 (halfOf g) ⟨(inHalf g).val * 8 + r.val, _⟩ n) = _
  rw [← ix3_eq_valueIdx, projT_apply]

end Arrays

/-! ## The result -/

/-- The result, when device `c` sends the pieces computed of `X` and its own blocks of the weights. -/
theorem OUT_apply (X : FVec Ideal S2x128x512 .bf16) (WQ WK WV WO : Dev nD → FVec Ideal S512x512 .bf16) (b : Fin 2)
    (i : Fin 128) (n : Fin 512) :
    OUT (F := Ideal) (fun c => sendT X (WQ c) (WK c) (WV c) (WO c)) (ix3 b i n) =
      ∑ c : Fin 32, ∑ C : Fin 512, attnK X (WQ c) (WK c) (WV c) b i C * WO c (ix2 C n) := by
  show k0_pay50 (F := Ideal) (RS _ (blkOf (ix3 b i n))) (ValueIdx.ix2 (rowOf (ix3 b i n)) n) = _
  rw [← ix2_eq_valueIdx, pay50_apply]
  refine Finset.sum_congr rfl fun c _ => ?_
  show sendT (F := Ideal) X (WQ c) (WK c) (WV c) (WO c) (ValueIdx.ix3 (blkOf (ix3 b i n)) (rowOf (ix3 b i n)) n) = _
  rw [← ix3_eq_valueIdx, sendT_apply]
  have hb : halfOf (blkOf (ix3 b i n)) = b := by
    apply Fin.ext
    show (16 * b.val + i.val / 8) / 16 = b.val
    omega
  have hi : (⟨(inHalf (blkOf (ix3 b i n))).val * 8 + (rowOf (ix3 b i n)).val, by omega⟩ : Fin 128) = i := by
    apply Fin.ext
    show (16 * b.val + i.val / 8) % 16 * 8 + i.val % 8 = i.val
    omega
  rw [hb, hi]

end Cert.KernelIdealProof
end
-- ==== Proof.RefValue.lean ====
/-
# The reference's result at an index

The reference's result as a formula of its five arguments: `headsR` are the queries, keys or values split into 256 heads,
`scoreR` the scores, `weightR` the exponentials of the scores less a row's largest, `sumR` a row's sum of them, `attnR` the
values weighed and divided by that sum, and `outR` the last product. Each is read at an index.
-/
module

public import proofs.«01_k».proof.Proof.Gen.ReferenceIdeal.Run
public import Idealize.ShloMosaic.Lib.Pointwise
public import Idealize.ShloMosaic.Lib.IdealHost

@[expose] public section

set_option maxRecDepth 65536

noncomputable section

namespace Cert.ReferenceIdealProof

open Cert.ReferenceIdeal Cert.ReferenceIdeal.Gen
open Idealize.ShloMosaic Idealize.ShloMosaic.TcCoe Idealize.SL.Sem Idealize.ShloMosaic.StableHlo

/-! ## A row's largest element, at any size -/

/-- The largest element along the last of four axes, started from `z`. -/
theorem reduceMax_last {n0 n1 n2 n3 : ℕ} (h : (⟨4, ![n0, n1, n2, n3]⟩ : Shape).ReducesTo [3] ⟨3, ![n0, n1, n2]⟩)
    (x : FVec Idealize.ShloMosaic.Ideal ⟨4, ![n0, n1, n2, n3]⟩ .f32) (z : EReal)
    (hu : 0 < (⟨0, ![]⟩ : Shape).numel) (a : Fin n0) (b : Fin n1) (c : Fin n2) :
    Host.reduce (FloatOps.maximumf (F := Idealize.ShloMosaic.Ideal) (φ := .f32)) x (fun _ => z) h hu (ix3 a b c) =
      Finset.univ.fold max z (fun k => x (ix4 a b c k)) := by
  rw [Host.reduce_eq_fold, Shape.ReducesTo.fold_fiber_r4_a3]
  rfl

/-! ## The reference's intermediate arrays -/

/-- The input times one weight matrix, cut into heads. -/
def headsR (X : FVec Ideal S2x128x512 .bf16) (W : FVec Ideal S512x16384 .bf16) : FVec Ideal S2x128x256x64 .bf16 :=
  shapeCast _ (truncf .bf16 (Host.dotGeneral dot_S2x128x512_S512x16384_S2x128x16384_2_0_01_1_n_n none X W) bitsLt_bf16_f32)
    shapeCasts_S2x128x16384_S2x128x256x64

/-- The scaled scores. -/
def scoreR (Q K : FVec Ideal S2x128x256x64 .bf16) : FVec Ideal S2x256x128x128 .f32 :=
  mulf
    (extf .f32
      (truncf .bf16 (Host.dotGeneral dot_S2x128x256x64_S2x128x256x64_S2x256x128x128_3_3_1_1_02_02 none Q K) bitsLt_bf16_f32)
      bitsLt_bf16_f32)
    (broadcastInDim S2x256x128x128 ![] bcast_S_S2x256x128x128 (constant S_ .f32 0x3E000000#32))

/-- The largest score of each row. -/
def topR (s : FVec Ideal S2x256x128x128 .f32) : FVec Ideal S2x256x128 .f32 :=
  Host.reduce FloatOps.maximumf s (constant S_ .f32 0xFF800000#32) reducesTo_S2x256x128x128_S2x256x128_d3 h_S_

/-- The same, against what came before the block of keys. -/
def maxR (s : FVec Ideal S2x256x128x128 .f32) : FVec Ideal S2x256x128x1 .f32 :=
  maximumf (broadcastInDim S2x256x128x1 ![] bcast_S_S2x256x128x1 (constant S_ .f32 0xFF800000#32))
    (broadcastInDim S2x256x128x1 ![0, 1, 2] bcast_S2x256x128_S2x256x128x1_0_1_2 (topR s))

/-- The factor by which what came before the block of keys is rescaled. -/
def alphaR (s : FVec Ideal S2x256x128x128 .f32) : FVec Ideal S2x256x128x1 .f32 :=
  Host.exp (subf (broadcastInDim S2x256x128x1 ![] bcast_S_S2x256x128x1 (constant S_ .f32 0xFF800000#32)) (maxR s))

/-- The weights, not yet divided by their sum. -/
def weightR (s : FVec Ideal S2x256x128x128 .f32) : FVec Ideal S2x256x128x128 .f32 :=
  Host.exp (subf s (broadcastInDim S2x256x128x128 ![0, 1, 2, 3] bcast_S2x256x128x1_S2x256x128x128_0_1_2_3 (maxR s)))

/-- The weights' sums. -/
def sumR (s : FVec Ideal S2x256x128x128 .f32) : FVec Ideal S2x256x128x1 .f32 :=
  addf (mulf (broadcastInDim S2x256x128x1 ![] bcast_S_S2x256x128x1 (constant S_ .f32 0x00000000#32)) (alphaR s))
    (broadcastInDim S2x256x128x1 ![0, 1, 2] bcast_S2x256x128_S2x256x128x1_0_1_2
      (Host.reduceAdd (weightR s) (constant S_ .f32 0x00000000#32) reducesTo_S2x256x128x128_S2x256x128_d3 h_S_))

/-- The attention. -/
def attnR (s : FVec Ideal S2x256x128x128 .f32) (V : FVec Ideal S2x128x256x64 .bf16) : FVec Ideal S2x128x256x64 .f32 :=
  Host.divf
    (addf
      (mulf (broadcastInDim S2x128x256x64 ![] bcast_S_S2x128x256x64 (constant S_ .f32 0x00000000#32))
        (broadcastInDim S2x128x256x64 ![0, 1, 2, 3] bcast_S2x128x256x1_S2x128x256x64_0_1_2_3
          (transpose S2x128x256x1 [0, 2, 1, 3] (alphaR s) transposes_S2x256x128x1_S2x128x256x1_0_2_1_3)))
      (transpose S2x128x256x64 [0, 3, 1, 2]
        (Host.dotGeneral dot_S2x128x256x64_S2x256x128x128_S2x256x64x128_1_3_3_2_02_01 none
          (extf .f32 V bitsLt_bf16_f32) (weightR s))
        transposes_S2x256x64x128_S2x128x256x64_0_3_1_2))
    (broadcastInDim S2x128x256x64 ![0, 1, 2, 3] bcast_S2x128x256x1_S2x128x256x64_0_1_2_3
      (transpose S2x128x256x1 [0, 2, 1, 3] (sumR s) transposes_S2x256x128x1_S2x128x256x1_0_2_1_3))

/-- The attention times the output weights. -/
def outR (A : FVec Ideal S2x128x256x64 .f32) (WO : FVec Ideal S16384x512 .bf16) : FVec Ideal S2x128x512 .bf16 :=
  truncf .bf16
    (Host.dotGeneral dot_S2x128x16384_S16384x512_S2x128x512_2_0_01_1_n_n none
      (shapeCast _ A shapeCasts_S2x128x256x64_S2x128x16384) (extf .f32 WO bitsLt_bf16_f32))
    bitsLt_bf16_f32

/-- The reference's result of its five arguments. -/
def resultR (X : FVec Ideal S2x128x512 .bf16) (WQ WK WV : FVec Ideal S512x16384 .bf16) (WO : FVec Ideal S16384x512 .bf16) :
    FVec Ideal S2x128x512 .bf16 :=
  outR (attnR (scoreR (headsR X WQ) (headsR X WK)) (headsR X WV)) WO

/-- The reference's run ends with `resultR` of the argument arrays. -/
theorem res_eq (m : (ℓ : Loc nD τ sig) → Buf (Elt Ideal) ℓ) (c : Dev nD) :
    Value.res_out0 m c = resultR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

/-! ## The arrays at an index -/

theorem headsR_apply (X : FVec Ideal S2x128x512 .bf16) (W : FVec Ideal S512x16384 .bf16) (b : Fin 2) (i : Fin 128) (h : Fin 256)
    (d : Fin 64) :
    headsR X W (ix4 b i h d) = ∑ e : Fin 512, X (ix3 b i e) * W (ix2 e ⟨h.val * 64 + d.val, by omega⟩) := by
  pointwise [headsR]

theorem scoreR_apply (Q K : FVec Ideal S2x128x256x64 .bf16) (b : Fin 2) (h : Fin 256) (i j : Fin 128) :
    scoreR Q K (ix4 b h i j) = (∑ d : Fin 64, Q (ix4 b i h d) * K (ix4 b j h d)) * Ideal.ofBits .f32 0x3E000000#32 := by
  pointwise [scoreR]

theorem negInf_eq : (constant S_ .f32 0xFF800000#32 : FVec Ideal S_ .f32) = fun _ => Ideal.ofBits .f32 0xFF800000#32 := rfl

theorem topR_apply (s : FVec Ideal S2x256x128x128 .f32) (b : Fin 2) (h : Fin 256) (i : Fin 128) :
    topR s (ix3 b h i) = Finset.univ.fold max (Ideal.ofBits .f32 0xFF800000#32) fun j => s (ix4 b h i j) := by
  unfold topR
  rw [negInf_eq]
  apply reduceMax_last

theorem maxWith_apply (r : FVec Ideal S2x256x128 .f32) (b : Fin 2) (h : Fin 256) (i : Fin 128) :
    maximumf (broadcastInDim S2x256x128x1 ![] bcast_S_S2x256x128x1 (constant S_ .f32 0xFF800000#32))
      (broadcastInDim S2x256x128x1 ![0, 1, 2] bcast_S2x256x128_S2x256x128x1_0_1_2 r) (ix4 b h i 0) =
      max (Ideal.ofBits .f32 0xFF800000#32) (r (ix3 b h i)) := by
  pointwise []

theorem maxR_apply (s : FVec Ideal S2x256x128x128 .f32) (b : Fin 2) (h : Fin 256) (i : Fin 128) :
    maxR s (ix4 b h i 0) = max (Ideal.ofBits .f32 0xFF800000#32)
      (Finset.univ.fold max (Ideal.ofBits .f32 0xFF800000#32) fun j => s (ix4 b h i j)) := by
  unfold maxR
  rw [maxWith_apply, topR_apply]

theorem alphaR_apply (s : FVec Ideal S2x256x128x128 .f32) (b : Fin 2) (h : Fin 256) (i : Fin 128) :
    alphaR s (ix4 b h i 0) = Ideal.exp (Ideal.ofBits .f32 0xFF800000#32 - maxR s (ix4 b h i 0)) := by
  pointwise [alphaR]

theorem weightR_apply (s : FVec Ideal S2x256x128x128 .f32) (b : Fin 2) (h : Fin 256) (i j : Fin 128) :
    weightR s (ix4 b h i j) = Ideal.exp (s (ix4 b h i j) - maxR s (ix4 b h i 0)) := by
  pointwise [weightR]

theorem sumR_apply (s : FVec Ideal S2x256x128x128 .f32) (b : Fin 2) (h : Fin 256) (i : Fin 128) :
    sumR s (ix4 b h i 0) = 0 * alphaR s (ix4 b h i 0) + ∑ j : Fin 128, weightR s (ix4 b h i j) := by
  pointwise [sumR]

theorem attnR_apply (s : FVec Ideal S2x256x128x128 .f32) (V : FVec Ideal S2x128x256x64 .bf16) (b : Fin 2) (i : Fin 128)
    (h : Fin 256) (d : Fin 64) :
    attnR s V (ix4 b i h d) =
      Ideal.div (0 * alphaR s (ix4 b h i 0) + ∑ j : Fin 128, V (ix4 b j h d) * weightR s (ix4 b h i j))
        (sumR s (ix4 b h i 0)) := by
  pointwise [attnR]

theorem outR_apply (A : FVec Ideal S2x128x256x64 .f32) (WO : FVec Ideal S16384x512 .bf16) (b : Fin 2) (i : Fin 128) (n : Fin 512) :
    outR A WO (ix3 b i n) =
      ∑ C : Fin 16384, A (ix4 b i ⟨C.val / 64, by omega⟩ ⟨C.val % 64, by omega⟩) * WO (ix2 C n) := by
  pointwise [outR]

end Cert.ReferenceIdealProof
end
-- ==== Proof.Equation.lean ====
/-
# The kernel's result is the reference's

Over the extended reals, where the input and the weights of the queries and keys are real numbers, the array that every
device of the kernel ends with (`OUT`, of the pieces that the devices compute from their blocks of the weights) is the
reference's result of the whole weights.

The reference's head `h`, of 256, is head `h % 8` of device `h / 8`; its column `C` of 16384 is column `C % 512` of device
`C / 512`. The last product's sum over 16384 columns is therefore the sum over the devices of the sums over their 512.
-/
module

public import proofs.«01_k».proof.Proof.KernelValue
public import proofs.«01_k».proof.Proof.RefValue
public import proofs.«01_k».proof.Proof.Softmax
public import Idealize.ShloMosaic.Lib.Layout

@[expose] public section

noncomputable section

namespace Cert.Equation

open Idealize.ShloMosaic

/-! ## The reference's attention at an index -/

section Ref
open Cert.ReferenceIdeal Cert.ReferenceIdealProof

/-- Every element is a real number. -/
def Real {s : Shape} {φ : FTy} (v : FVec Ideal s φ) : Prop := ∀ i, ∃ r : ℝ, v i = (r : EReal)

theorem maxR_eq (s : FVec Ideal S2x256x128x128 .f32) (b : Fin 2) (h : Fin 256) (i : Fin 128) :
    maxR s (ix4 b h i 0) = Finset.univ.fold max (⊥ : EReal) fun j => s (ix4 b h i j) := by
  rw [maxR_apply, Softmax.negInf]
  exact max_eq_right bot_le

theorem weightR_eq (s : FVec Ideal S2x256x128x128 .f32) (b : Fin 2) (h : Fin 256) (i j : Fin 128) :
    weightR s (ix4 b h i j) = Softmax.weight (fun k => s (ix4 b h i k)) j := by
  rw [weightR_apply, maxR_eq]; rfl

/-- Where a row's scores are real numbers, the reference's attention is the row that the kernel computes. -/
theorem attnR_eq (s : FVec Ideal S2x256x128x128 .f32) (V : FVec Ideal S2x128x256x64 .bf16) (b : Fin 2) (i : Fin 128)
    (h : Fin 256) (d : Fin 64) (hs : ∀ j, ∃ r : ℝ, s (ix4 b h i j) = (r : EReal)) :
    attnR s V (ix4 b i h d) = Softmax.rowK (fun j => s (ix4 b h i j)) fun j => V (ix4 b j h d) := by
  rw [attnR_apply, sumR_apply]
  simp only [weightR_eq]
  exact Softmax.row_eq (by decide) _ _ _ _ hs

end Ref

/-! ## Blocks -/

/-- Block `c` of weights cut along the columns: column `C` is column `512 c + C` of the whole. -/
theorem block_cols (W : FVec Ideal ⟨2, ![512, 16384]⟩ .bf16) (c : Fin 32) (e C : Fin 512) :
    Layout.block ⟨2, ![512, 512]⟩ ⟨2, ![512, 16384]⟩ 1 32 c W (by decide) (ix2 e C)
      = W (ix2 e ⟨c.val * 512 + C.val, by omega⟩) := by
  refine congrArg W ?_
  funext a
  match a with
  | ⟨0, _⟩ => rfl
  | ⟨1, _⟩ => rfl

/-- Block `c` of weights cut along the rows. -/
theorem block_rows (W : FVec Ideal ⟨2, ![16384, 512]⟩ .bf16) (c : Fin 32) (C n : Fin 512) :
    Layout.block ⟨2, ![512, 512]⟩ ⟨2, ![16384, 512]⟩ 0 32 c W (by decide) (ix2 C n)
      = W (ix2 ⟨c.val * 512 + C.val, by omega⟩ n) := by
  refine congrArg W ?_
  funext a
  match a with
  | ⟨0, _⟩ => rfl
  | ⟨1, _⟩ => rfl

/-- A sum over 16384 columns is the sum over 32 devices of the sums over 512. -/
theorem sum_columns (f : Fin 16384 → EReal) :
    ∑ C, f C = ∑ c : Fin 32, ∑ C : Fin 512, f ⟨c.val * 512 + C.val, by omega⟩ := by
  rw [← Fintype.sum_prod_type']
  refine (Fintype.sum_equiv (finProdFinEquiv (m := 32) (n := 512)) _ _ fun p => ?_).symm
  refine congrArg f (Fin.ext ?_)
  show p.1.val * 512 + p.2.val = p.2.val + 512 * p.1.val
  omega

/-! ## The equation -/

section Eq
open Cert.KernelIdealProof Cert.ReferenceIdealProof

variable (X : FVec Ideal ⟨3, ![2, 128, 512]⟩ .bf16) (WQ WK WV : FVec Ideal ⟨2, ![512, 16384]⟩ .bf16)
  (WO : FVec Ideal ⟨2, ![16384, 512]⟩ .bf16)

/-- Device `c`'s block of weights cut along the columns, and along the rows. -/
def colsOf (W : FVec Ideal ⟨2, ![512, 16384]⟩ .bf16) (c : Fin 32) : FVec Ideal ⟨2, ![512, 512]⟩ .bf16 :=
  Layout.block ⟨2, ![512, 512]⟩ ⟨2, ![512, 16384]⟩ 1 32 c W (by decide)
def rowsOf (W : FVec Ideal ⟨2, ![16384, 512]⟩ .bf16) (c : Fin 32) : FVec Ideal ⟨2, ![512, 512]⟩ .bf16 :=
  Layout.block ⟨2, ![512, 512]⟩ ⟨2, ![16384, 512]⟩ 0 32 c W (by decide)

/-- The head that column `C` of device `c` is in, and the column within it. -/
def headAt (c : Fin 32) (C : Fin 512) : Fin 256 := ⟨(c.val * 512 + C.val) / 64, by omega⟩
def inHeadAt (c : Fin 32) (C : Fin 512) : Fin 64 := ⟨(c.val * 512 + C.val) % 64, by omega⟩

/-- The reference's scores are real numbers, and they are the kernel's. -/
theorem score_real_eq (hX : Real X) (c : Fin 32) (hQ : Real (colsOf WQ c)) (hK : Real (colsOf WK c)) (b : Fin 2)
    (C : Fin 512) (i j : Fin 128) :
    ∃ r : ℝ, scoreR (headsR X WQ) (headsR X WK) (ix4 b (headAt c C) i j) = (r : EReal)
      ∧ scoreK X (colsOf WQ c) (colsOf WK c) b (headOf C) i j = (r : EReal) := by
  have hcol : ∀ (W : FVec Ideal ⟨2, ![512, 16384]⟩ .bf16) (e : Fin 512) (d : Fin 64),
      W (ix2 e ⟨(headAt c C).val * 64 + d.val, by have := (headAt c C).isLt; omega⟩)
        = colsOf W c (ix2 e (colAt (headOf C) d)) := by
    intro W e d
    unfold colsOf
    rw [block_cols]
    refine congrArg (fun k => W (ix2 e k)) (Fin.ext ?_)
    show (c.val * 512 + C.val) / 64 * 64 + d.val = c.val * 512 + (64 * (C.val / 64) + d.val)
    omega
  rw [scoreR_apply, Softmax.eighth]
  simp only [headsR_apply, hcol]
  exact Softmax.score_eq (fun e => X (ix3 b i e)) (fun e => X (ix3 b j e))
    (fun e d => colsOf WQ c (ix2 e (colAt (headOf C) d))) (fun e d => colsOf WK c (ix2 e (colAt (headOf C) d)))
    (fun e => hX _) (fun e => hX _) (fun e d => hQ _) (fun e d => hK _)

/-- The attention at column `C` of device `c` is the reference's at column `512 c + C`. -/
theorem attn_eq (hX : Real X) (c : Fin 32) (hQ : Real (colsOf WQ c)) (hK : Real (colsOf WK c)) (b : Fin 2) (i : Fin 128)
    (C : Fin 512) :
    attnK X (colsOf WQ c) (colsOf WK c) (colsOf WV c) b i C
      = attnR (scoreR (headsR X WQ) (headsR X WK)) (headsR X WV) (ix4 b i (headAt c C) (inHeadAt c C)) := by
  rw [attnR_eq _ _ _ _ _ _ fun j => (score_real_eq X WQ WK hX c hQ hK b C i j).imp fun r h => h.1]
  unfold attnK
  refine congrArg₂ Softmax.rowK (funext fun j => ?_) (funext fun j => ?_)
  · obtain ⟨r, h1, h2⟩ := score_real_eq X WQ WK hX c hQ hK b C i j
    exact h2.trans h1.symm
  · rw [headsR_apply]
    refine Finset.sum_congr rfl fun e _ => ?_
    unfold colsOf
    rw [block_cols]
    refine congrArg (fun k => X (ix3 b j e) * WV (ix2 e k)) (Fin.ext ?_)
    show c.val * 512 + C.val = (c.val * 512 + C.val) / 64 * 64 + (c.val * 512 + C.val) % 64
    omega

/-- The kernel's result is the reference's. -/
theorem result_eq (hX : Real X) (hQ : ∀ c, Real (colsOf WQ c)) (hK : ∀ c, Real (colsOf WK c)) :
    OUT (F := Ideal) (fun c => sendT X (colsOf WQ c) (colsOf WK c) (colsOf WV c) (rowsOf WO c))
      = resultR X WQ WK WV WO := by
  funext y
  obtain ⟨b, i, n, rfl⟩ : ∃ (b : Fin 2) (i : Fin 128) (n : Fin 512), y = ix3 b i n := ⟨y 0, y 1, y 2, eq_ix3 y⟩
  unfold resultR
  rw [OUT_apply, outR_apply, sum_columns]
  refine Finset.sum_congr rfl fun c _ => Finset.sum_congr rfl fun C _ => ?_
  rw [attn_eq X WQ WK WV hX c (hQ c) (hK c) b i C]
  unfold rowsOf
  rw [block_rows]
  rfl

end Eq

end Cert.Equation
end
-- ==== Proof.Value.lean ====
/-
# The value claim

From memories that agree on the arguments, of which the input and the weights of the queries and keys are real numbers, the
kernel over the extended reals leaves on every device the array that the reference leaves.
-/
module

public import proofs.«01_k».proof.Proof.Equation
public import proofs.«01_k».proof.Proof.Frames

@[expose] public section

set_option maxRecDepth 65536

noncomputable section

namespace Cert.ValueProof

open Idealize.ShloMosaic Idealize.ShloMosaic.TcCoe Idealize.SL Idealize.SL.Sem

/-! ## The precondition -/

instance preKernel : Cert.Pre_finite_scores_KernelIdeal.Facts := ⟨by decide, by decide⟩
instance preReference : Cert.Pre_finite_scores_ReferenceIdeal.Facts := ⟨by decide, by decide⟩

/-- An extended real of magnitude below infinity is a real number. -/
theorem real_of_lt (x : EReal) (h : Ideal.cmp .olt (max x (-x)) (Ideal.ofBits .bf16 0x7F80#16) = 1#1) : ∃ r : ℝ, x = (r : EReal) := by
  rw [Softmax.posInf] at h
  have h' : max x (-x) < ⊤ := (Ideal.cmp_olt_eq_one _ _).mp h
  induction x with
  | bot => simp at h'
  | top => simp at h'
  | coe r => exact ⟨r, rfl⟩

/-- The precondition says that the input and the weights of the queries and keys are real numbers. -/
theorem pre_real {m : (ℓ : Loc Cert.KernelIdeal.nD Cert.KernelIdeal.τ Cert.KernelIdeal.sig) → Buf (Elt Ideal) ℓ}
    (h : Cert.Pre_KernelIdeal_finite_scores_KernelIdeal m) (c : Dev Cert.KernelIdeal.nD) :
    Equation.Real (s := ⟨3, ![2, 128, 512]⟩) (φ := .bf16) (m ((c.tc : Thread Cert.KernelIdeal.nD Cert.KernelIdeal.τ).loc Cert.KernelIdeal.main_arg0))
    ∧ Equation.Real (s := ⟨2, ![512, 512]⟩) (φ := .bf16) (m ((c.tc : Thread Cert.KernelIdeal.nD Cert.KernelIdeal.τ).loc Cert.KernelIdeal.main_arg1))
    ∧ Equation.Real (s := ⟨2, ![512, 512]⟩) (φ := .bf16) (m ((c.tc : Thread Cert.KernelIdeal.nD Cert.KernelIdeal.τ).loc Cert.KernelIdeal.main_arg2)) :=
  ⟨fun i => real_of_lt _ (congrFun (h c).1 i), fun i => real_of_lt _ (congrFun (h c).2.1 i), fun i => real_of_lt _ (congrFun (h c).2.2 i)⟩

/-! ## What the run leaves, as the arguments' contents -/

section Arrays
open Cert.KernelIdeal Cert.KernelIdeal.Gen Cert.KernelIdealProof

variable (m : (ℓ : Loc nD τ sig) → Buf (Elt Ideal) ℓ)

theorem xAt_eq (c : Dev nD) : xAt m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem wqAt_eq (c : Dev nD) : wqAt m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem woAt_eq (c : Dev nD) : woAt m c = m ((c : Thread nD τ).loc main_arg4) := by
  have hz : (fun a => (win0_2.index (0 : Fin 1)) a * main_arg4.ty.shape.size a) = fun _ => 0 := funext fun a => by fin_cases a <;> decide
  exact Memref.read_access_unit_zero (Elt Ideal) main_arg4 hz (fun a => by fin_cases a <;> decide) _
theorem wkAt_eq (c : Dev nD) : wkAt m c = m ((c : Thread nD τ).loc main_arg2) := by
  have hz : (fun a => (win0_3.index (0 : Fin 1)) a * main_arg2.ty.shape.size a) = fun _ => 0 := funext fun a => by fin_cases a <;> decide
  exact Memref.read_access_unit_zero (Elt Ideal) main_arg2 hz (fun a => by fin_cases a <;> decide) _
theorem wvAt_eq (c : Dev nD) : wvAt m c = m ((c : Thread nD τ).loc main_arg3) := by
  have hz : (fun a => (win0_4.index (0 : Fin 1)) a * main_arg3.ty.shape.size a) = fun _ => 0 := funext fun a => by fin_cases a <;> decide
  exact Memref.read_access_unit_zero (Elt Ideal) main_arg3 hz (fun a => by fin_cases a <;> decide) _

/-- The result's array is the whole of what the body leaves. -/
theorem finalA_out (c : Dev nD) : finalA m c (5 : Fin 6) = OUT (F := Ideal) (SBm m) := by
  have hz : (fun a => (win0_5.index (0 : Fin 1)) a * main_v1.ty.shape.size a) = fun _ => 0 := funext fun a => by fin_cases a <;> decide
  have hr : (win0_5.blk (0 : Fin 1)).view.read (Elt Ideal) (finalA m c (5 : Fin 6)) = finalA m c (5 : Fin 6) :=
    Memref.read_access_unit_zero (Elt Ideal) main_v1 hz (fun a => by fin_cases a <;> decide) _
  refine hr.symm.trans ?_
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

end Arrays

/-! ## The claim -/

theorem algebraic : Cert.algebraic_KernelIdeal_ReferenceIdeal_pre_finite_scores_KernelIdeal := by
  intro m g m' g' hpre hin
  have hout : ∀ c : Dev Cert.KernelIdeal.nD,
      Cert.KernelIdealProof.finalA m c (5 : Fin 6) = Cert.ReferenceIdeal.Value.res_out0 m' 0 := by
    intro c
    rw [finalA_out, Cert.ReferenceIdealProof.res_eq]
    rw [← Equation.result_eq _ _ _ _ _ (by rw [← (hin 0).1]; exact (pre_real hpre 0).1)
      (fun d => by unfold Equation.colsOf; rw [← (hin d).2.1]; exact (pre_real hpre d).2.1)
      (fun d => by unfold Equation.colsOf; rw [← (hin d).2.2.1]; exact (pre_real hpre d).2.2)]
    refine congrArg (Cert.KernelIdealProof.OUT (F := Ideal)) (funext fun d => ?_)
    unfold Cert.KernelIdealProof.SBm Equation.colsOf Equation.rowsOf
    rw [xAt_eq, wqAt_eq, wkAt_eq, wvAt_eq, woAt_eq]
    obtain ⟨h0, h1, h2, h3, h4⟩ := hin d
    exact congr (congr (congr (congr (congrArg (Cert.KernelIdealProof.sendT (F := Ideal)) h0) h1) h2) h3) h4
  refine ⟨Cert.ReferenceIdeal.Value.res_out0 m' 0, ?_, ?_⟩
  · exact (θ_run _ _ _).mono (fun r h c => ⟨(h.1 c (5 : Fin 6)).trans (hout c), Cert.KernelIdealProof.run_frame m h.1 c⟩)
      (Cert.KernelIdealProof.run_main (F := Ideal) m g)
  · exact (θ_run _ _ _).mono (fun r h => h 0) (Cert.ReferenceIdeal.Value.run (F := Ideal) m' g')

end Cert.ValueProof
end
-- ==== Proof.lean ====
/-
# The claims

The kernel's frames, the reference's frame, and that the kernel computes what the reference does.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.ValueProof.preKernel, Cert.ValueProof.preReference,
    Cert.KernelIdealProof.frame_kernel,
    Cert.KernelIdealProof.frame_kernelIdeal, fun m g _ => Cert.KernelIdealProof.frame_kernelIdeal m g trivial,
    Cert.KernelIdealProof.frame_reference, fun m g _ => Cert.KernelIdealProof.frame_reference m g trivial,
    trivial, Cert.ValueProof.algebraic⟩

end Cert.Proof

end
